-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_max_finite [hPre_row_max_finite : Cert.Pre_row_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_row_max_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_max_finite [hPre_row_max_finite : Cert.Pre_row_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_max_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_row_max_finite [hKernelIdeal : Cert.KernelIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_row_max_finite [hReferenceIdeal : Cert.ReferenceIdeal.Facts] [hPre_row_max_finite : Cert.Pre_row_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_row_max_finite [hKernelIdeal : Cert.KernelIdeal.Facts] [hReferenceIdeal : Cert.ReferenceIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v14) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_row_max_finite : Cert.Pre_row_max_finite.Facts),
    quiescent_Kernel (hKernel := hKernel)
    ∧ quiescent_KernelIdeal (hKernelIdeal := hKernelIdeal)
    ∧ quiescent_KernelIdeal_pre_row_max_finite (hKernelIdeal := hKernelIdeal) (hPre_row_max_finite := hPre_row_max_finite)
    ∧ quiescent_ReferenceIdeal (hReferenceIdeal := hReferenceIdeal)
    ∧ quiescent_ReferenceIdeal_pre_row_max_finite (hReferenceIdeal := hReferenceIdeal) (hPre_row_max_finite := hPre_row_max_finite)
    ∧ preserves_Kernel_KernelIdeal
    ∧ algebraic_KernelIdeal_ReferenceIdeal_pre_row_max_finite (hKernelIdeal := hKernelIdeal) (hReferenceIdeal := hReferenceIdeal) (hPre_row_max_finite := hPre_row_max_finite)
-- ==== Pre_row_max_finite.lean ====
abbrev S128x100000 : Shape := ⟨2, ![128, 100000]⟩
abbrev S_ : Shape := ⟨0, ![]⟩
abbrev S128 : Shape := ⟨1, ![128]⟩

class Facts : Prop where
  reducesTo_S128x100000_S128_d1 : S128x100000.ReducesTo [1] S128
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x100000 .f32) : IVec S_ 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_v1 : FVec F S128 .f32 := Host.absf main_v0
  let main_cst_0 : FVec F S_ .f32 := constant S_ .f32 0x7F800000#32
  let main_v2 : FVec F S128 .f32 := broadcastInDim S128 ![] bcast_S_S128 main_cst_0
  let main_v3 : IVec S128 1 := cmpf .olt main_v1 main_v2
  let main_c : IVec S_ 1 := constantI S_ 1 1#1
  let main_v4 : IVec S_ 1 := (fun x v => Host.reduce IntOp.andi x v reducesTo_S128_S_d0 h_S_) main_v3 main_c
  main_v4
-- ==== Kernel.lean ====
abbrev S128x100000 : Shape := ⟨2, ![128, 100000]⟩
abbrev S128x1 : Shape := ⟨2, ![128, 1]⟩
abbrev S2x16x100000 : Shape := ⟨3, ![2, 16, 100000]⟩
abbrev S2 : Shape := ⟨1, ![2]⟩
abbrev S1 : Shape := ⟨1, ![1]⟩
abbrev S_ : Shape := ⟨0, ![]⟩
abbrev S1x16x100000 : Shape := ⟨3, ![1, 16, 100000]⟩
abbrev S16x100000 : Shape := ⟨2, ![16, 100000]⟩
abbrev S16 : Shape := ⟨1, ![16]⟩
abbrev S16x1 : Shape := ⟨2, ![16, 1]⟩
abbrev S128 : Shape := ⟨1, ![128]⟩

abbrev nBuf : Space → Nat
  | .hbm => 6
  | .vmem => 5
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x100000, .f32⟩
  | .hbm, ⟨3, _⟩ => ⟨S128x1, .i32⟩
  | .hbm, ⟨4, _⟩ => ⟨S128x1, .f32⟩
  | .hbm, ⟨5, _⟩ => ⟨S128, .i32⟩
  | .local _ .vmem, ⟨0, _⟩ => ⟨S128x1, .i32⟩
  | .local _ .vmem, ⟨1, _⟩ => ⟨S128x1, .f32⟩
  | .local _ .vmem, ⟨2, _⟩ => ⟨S2x16x100000, .f32⟩
  | .local _ .vmem, ⟨3, _⟩ => ⟨S2x16x100000, .f32⟩
  | .local _ .vmem, ⟨4, _⟩ => ⟨S2x16x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S_, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S128x1, .f32⟩
  | .hbm, ⟨7, _⟩ => ⟨S128x100000, .f32⟩
  | .hbm, ⟨8, _⟩ => ⟨S128x100000, .f32⟩
  | .hbm, ⟨9, _⟩ => ⟨S128x100000, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S128x100000, .f32⟩
  | .hbm, ⟨14, _⟩ => ⟨S128x100000, .f32⟩
  | .hbm, ⟨15, _⟩ => ⟨S_, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128x1, .f32⟩
  | .hbm, ⟨21, _⟩ => ⟨S128x100000, .f32⟩
  | .hbm, ⟨22, _⟩ => ⟨S128x100000, .f32⟩
  | .hbm, ⟨23, _⟩ => ⟨S128x100000, .f32⟩
  | .hbm, ⟨24, _⟩ => ⟨S_, .f32⟩
  | .hbm, ⟨25, _⟩ => ⟨S128, .f32⟩
  | .hbm, ⟨26, _⟩ => ⟨S128x1, .f32⟩
  | .hbm, ⟨27, _⟩ => ⟨S128x1, .f32⟩
  | .hbm, ⟨28, _⟩ => ⟨S128x100000, .f32⟩
  | .hbm, ⟨29, _⟩ => ⟨S128x100000, .f32⟩
  | .hbm, ⟨30, _⟩ => ⟨S128x100000, .i32⟩
  | .hbm, ⟨31, _⟩ => ⟨S_, .f32⟩
  | .hbm, ⟨32, _⟩ => ⟨S_, .i32⟩
  | .hbm, ⟨33, _⟩ => ⟨S128, .f32⟩
  | .hbm, ⟨34, _⟩ => ⟨S128, .i32⟩
  | .hbm, ⟨35, _⟩ => ⟨S128x1, .i32⟩
  | .hbm, ⟨36, _⟩ => ⟨S_, .i32⟩
  | .hbm, ⟨37, _⟩ => ⟨S128x1, .i32⟩
  | .hbm, ⟨38, _⟩ => ⟨S128x1, .i1⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S128x1, .i32⟩
  | .hbm, ⟨43, _⟩ => ⟨S128x1x1, .i32⟩
  | .hbm, ⟨44, _⟩ => ⟨S1, .i32⟩
  | .hbm, ⟨45, _⟩ => ⟨S_, .i32⟩
  | .hbm, ⟨46, _⟩ => ⟨S128x1x1, .i32⟩
  | .hbm, ⟨47, _⟩ => ⟨S128x1x1, .i1⟩
  | .hbm, ⟨48, _⟩ => ⟨S1x1x1, .i32⟩
  | .hbm, ⟨49, _⟩ => ⟨S128x1x1, .i32⟩
  | .hbm, ⟨50, _⟩ => ⟨S128x1x1, .i1⟩
  | .hbm, ⟨51, _⟩ => ⟨S128x1x1, .i1⟩
  | .hbm, ⟨52, _⟩ => ⟨S_, .i1⟩
  | .hbm, ⟨53, _⟩ => ⟨S128x1, .i1⟩
  | .hbm, ⟨54, _⟩ => ⟨S128x1, .f32⟩
  | .hbm, ⟨55, _⟩ => ⟨S_, .f32⟩
  | .hbm, ⟨56, _⟩ => ⟨S128x1, .f32⟩
  | .hbm, ⟨57, _⟩ => ⟨S128x1, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v11 : Ref sig .tc := ⟨.hbm, 29, rfl⟩
abbrev main_call1_v0 : Ref sig .tc := ⟨.hbm, 30, rfl⟩
abbrev main_call1_cst : Ref sig .tc := ⟨.hbm, 31, rfl⟩
abbrev main_call1_c : Ref sig .tc := ⟨.hbm, 32, rfl⟩
abbrev main_call1_v1_0 : Ref sig .tc := ⟨.hbm, 33, rfl⟩
abbrev main_v12 : Ref sig .tc := ⟨.hbm, 34, rfl⟩
abbrev main_v13 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_cst : Ref sig .tc := ⟨.hbm, 55, rfl⟩
abbrev main_call2_v14 : Ref sig .tc := ⟨.hbm, 56, rfl⟩
abbrev main_v14 : Ref sig .tc := ⟨.hbm, 57, rfl⟩

abbrev nD : Nat := 1
abbrev τ : Topo := Topo.v7x

variable {F : FTy → Type} [FloatOps F]
-- ==== Proof.Block.lean ====
module

public import proofs.«01_k».proof.Proof.Gen.KernelIdeal.Skeleton
public import Idealize.ShloMosaic.Lib.Writes

@[expose] public section

/-! What one block of sixteen rows yields, and the four arrays the eight blocks make up. -/

noncomputable section

namespace Cert.Proof

open Cert.KernelIdeal Cert.KernelIdeal.Gen
open Idealize.ShloMosaic

variable {F : FTy → Type} [FloatOps F]

/-! ## The eight row blocks -/

/-- Block `k`'s sixteen rows lie inside the logits' shape. -/
theorem rows_inb (k : Fin 8) : ∀ a, (![16 * k.val, 0] : Fin 2 → ℕ) a + S16x100000.size a ≤ S128x100000.size a
  | ⟨0, _⟩ => by show 16 * k.val + 16 ≤ 128; omega
  | ⟨1, _⟩ => by show 0 + 100000 ≤ 100000; omega

/-- Block `k`'s sixteen rows lie inside a column. -/
theorem col_inb (k : Fin 8) : ∀ a, (![16 * k.val, 0] : Fin 2 → ℕ) a + S16x1.size a ≤ S128x1.size a
  | ⟨0, _⟩ => by show 16 * k.val + 16 ≤ 128; omega
  | ⟨1, _⟩ => by show 0 + 1 ≤ 1; omega

/-- Block `k`'s sixteen rows of an array of the logits' shape. -/
abbrev rowsRect (k : Fin 8) : Rect S128x100000 := Rect.unit ![16 * k.val, 0] S16x100000.size (rows_inb k)

/-- Block `k`'s sixteen rows of an array of one column. -/
abbrev colRect (k : Fin 8) : Rect S128x1 := Rect.unit ![16 * k.val, 0] S16x1.size (col_inb k)

/-- The block of sixteen rows of `x` that a copy brings in. -/
def rows {α : Type} (k : Fin 8) (x : S128x100000.Idx → α) : S16x100000.Idx → α := fun j => x ((rowsRect k).emb j)

/-- The same block as the kernel loads it from its slot: under a leading axis of one. -/
def slab {α : Type} (b : S16x100000.Idx → α) : S1x16x100000.Idx → α :=
  fun j => b ((Shape.reshapeEquiv squeezes_S1x16x100000_S16x100000.numel_eq).symm j)

/-- Loading a slot and dropping its leading axis gives the block back. -/
theorem shapeCast_slab {α : Type} (b : S16x100000.Idx → α) (h : S1x16x100000.ShapeCasts S16x100000) :
    shapeCast S16x100000 (slab b) h = b :=
  funext fun j => congrArg b (Equiv.symm_apply_apply (Shape.reshapeEquiv squeezes_S1x16x100000_S16x100000.numel_eq) j)

/-! ## What one block yields -/

/-- The block's row maxima, as a column. -/
def blkMax (b : FVec F S16x100000 .f32) : FVec F S16x1 .f32 := k0_pay2 (slab b)

/-- The block less its row maxima. -/
def blkShift (b : FVec F S16x100000 .f32) : FVec F S16x100000 .f32 := k0_pay3 (slab b)

/-- The row sums of the shifted block's exponentials, as a column. -/
def blkSum (b : FVec F S16x100000 .f32) : FVec F S16x1 .f32 := k0_pay5 (slab b)

/-- The block's probabilities: the exponentials times the reciprocal of their row's sum. -/
def blkProbs (b : FVec F S16x100000 .f32) : FVec F S16x100000 .f32 := k0_pay6 (slab b)

/-- A slab's log-probabilities: the shifted slab less the logarithm of its row's sum. -/
def logsOf (v : Vec F S1x16x100000 .f32) : FVec F S16x100000 .f32 :=
  subf (k0_pay3 v) (broadcastTo S16x100000 (log (k0_pay5 v)) broadcasts_S16x1_S16x100000)

/-- The block's log-probabilities. -/
def blkLogs (b : FVec F S16x100000 .f32) : FVec F S16x100000 .f32 := logsOf (slab b)

/-- The block's tokens: the least column at which a row takes its maximum. -/
def blkTokens (b : FVec F S16x100000 .f32) : IVec S16x1 32 := k0_pay10 (k0_pay1 (slab b)) (blkMax b)

/-- The log-probability of each of the block's tokens: zero less the logarithm of its row's sum. -/
def blkSample (b : FVec F S16x100000 .f32) : FVec F S16x1 .f32 := k0_pay11 (blkSum b)

/-! ## The arrays the blocks make up -/

/-- A row below 128 lies in one of eight blocks. -/
theorem blk_lt {i : ℕ} (h : i < 128) : i / 16 < 8 := by omega

/-- The block a row lies in. -/
abbrev blkOf {n : ℕ} (i : (⟨2, ![128, n]⟩ : Shape).Idx) : Fin 8 := ⟨(i 0).val / 16, blk_lt (i 0).isLt⟩

/-- The place of an element within its block. -/
def inBlk {n : ℕ} (i : (⟨2, ![128, n]⟩ : Shape).Idx) : (⟨2, ![16, n]⟩ : Shape).Idx
  | ⟨0, _⟩ => ⟨(i 0).val % 16, Nat.mod_lt _ (by omega)⟩
  | ⟨1, _⟩ => i 1

/-- The array whose block `k` is `g` of block `k` of the logits. -/
def assemble {α β : Type} {n : ℕ} (g : (S16x100000.Idx → α) → (⟨2, ![16, n]⟩ : Shape).Idx → β) (x : S128x100000.Idx → α) :
    (⟨2, ![128, n]⟩ : Shape).Idx → β :=
  fun i => g (rows (blkOf i) x) (inBlk i)

/-- The assembled array at a place of block `k` is what that block yields there. -/
theorem assemble_at {α β : Type} {n : ℕ} (g : (S16x100000.Idx → α) → (⟨2, ![16, n]⟩ : Shape).Idx → β) (x : S128x100000.Idx → α)
    (k : Fin 8) (i : (⟨2, ![128, n]⟩ : Shape).Idx) (j : (⟨2, ![16, n]⟩ : Shape).Idx)
    (h0 : (i 0).val = 16 * k.val + (j 0).val) (h1 : (i 1).val = (j 1).val) : assemble g x i = g (rows k x) j := by
  have hj : (j 0).val < 16 := (j 0).isLt
  have hk : blkOf i = k := Fin.ext (by show (i 0).val / 16 = k.val; omega)
  have hi : inBlk i = j := funext fun a => match a with
    | ⟨0, _⟩ => Fin.ext (by show (i 0).val % 16 = (j 0).val; omega)
    | ⟨1, _⟩ => Fin.ext h1
  rw [assemble, hk, hi]

/-- A block's values are the assembled array's at the block's rows. -/
theorem assemble_rows {α β : Type} (g : (S16x100000.Idx → α) → S16x100000.Idx → β) (x : S128x100000.Idx → α)
    (k : Fin 8) (j : S16x100000.Idx) : g (rows k x) j = assemble (n := 100000) g x ((rowsRect k).emb j) :=
  (assemble_at g x k _ _ (by rw [Rect.emb_apply]; show 16 * k.val + 1 * _ = _; omega)
    (by rw [Rect.emb_apply]; show 0 + 1 * _ = _; omega)).symm

/-- The same for an array of one column. -/
theorem assemble_col {α β : Type} (g : (S16x100000.Idx → α) → S16x1.Idx → β) (x : S128x100000.Idx → α)
    (k : Fin 8) (j : S16x1.Idx) : g (rows k x) j = assemble (n := 1) g x ((colRect k).emb j) :=
  (assemble_at g x k _ _ (by rw [Rect.emb_apply]; show 16 * k.val + 1 * _ = _; omega)
    (by rw [Rect.emb_apply]; show 0 + 1 * _ = _; omega)).symm

/-- The eight blocks of one column, last first. -/
abbrev colPieces (e : EltTy) (g : (S16x100000.Idx → Elt F .f32) → S16x1.Idx → Elt F e) (x : S128x100000.Idx → Elt F .f32) :
    List (View.Piece (Elt F) S128x1 e) :=
  [⟨colRect 7, g (rows 7 x)⟩, ⟨colRect 6, g (rows 6 x)⟩, ⟨colRect 5, g (rows 5 x)⟩, ⟨colRect 4, g (rows 4 x)⟩,
    ⟨colRect 3, g (rows 3 x)⟩, ⟨colRect 2, g (rows 2 x)⟩, ⟨colRect 1, g (rows 1 x)⟩, ⟨colRect 0, g (rows 0 x)⟩]

/-- The eight blocks of an array of the logits' shape, last first. -/
abbrev rowPieces (g : (S16x100000.Idx → Elt F .f32) → S16x100000.Idx → Elt F .f32) (x : S128x100000.Idx → Elt F .f32) :
    List (View.Piece (Elt F) S128x100000 .f32) :=
  [⟨rowsRect 7, g (rows 7 x)⟩, ⟨rowsRect 6, g (rows 6 x)⟩, ⟨rowsRect 5, g (rows 5 x)⟩, ⟨rowsRect 4, g (rows 4 x)⟩,
    ⟨rowsRect 3, g (rows 3 x)⟩, ⟨rowsRect 2, g (rows 2 x)⟩, ⟨rowsRect 1, g (rows 1 x)⟩, ⟨rowsRect 0, g (rows 0 x)⟩]

/-- The members of a list of eight, last first. -/
theorem mem_eight {α : Type} (f : Fin 8 → α) (p : α) : p ∈ [f 7, f 6, f 5, f 4, f 3, f 2, f 1, f 0] ↔ ∃ k, p = f k := by
  constructor
  · intro h
    simp only [List.mem_cons, List.not_mem_nil, or_false] at h
    rcases h with h | h | h | h | h | h | h | h <;> exact ⟨_, h⟩
  · rintro ⟨k, rfl⟩
    revert k
    simp [Fin.forall_fin_succ]

/-- Eight pieces that hold a function's values at their places and cover the shape leave that function. -/
theorem read_eight {κ : Kind} {sp : Space} {s : Shape} {e : EltTy} (v : View sig κ sp s e) (f : v.ty.Contents (Elt F))
    (p : Fin 8 → View.Piece (Elt F) s e) (G : s.Idx → Elt F e) (hG : ∀ k j, (p k).2 j = G ((p k).1.emb j))
    (hc : ∀ i, ∃ k j, (p k).1.emb j = i) :
    v.read (Elt F) (v.writes (Elt F) f [p 7, p 6, p 5, p 4, p 3, p 2, p 1, p 0]) = G := by
  funext i
  refine View.read_writes_apply_of_pieces v f G _ (fun q hq => ?_) i ?_
  · obtain ⟨k, rfl⟩ := (mem_eight p q).1 hq
    exact hG k
  · obtain ⟨k, j, hj⟩ := hc i
    exact ⟨p k, (mem_eight p _).2 ⟨k, rfl⟩, hj ▸ (p k).1.toLoadRect.idx_mem j⟩

/-- Writing the eight blocks of an array of the logits' shape leaves the array they make up. -/
theorem read_rowPieces {κ : Kind} {sp : Space} (v : View sig κ sp S128x100000 .f32) (f : v.ty.Contents (Elt F))
    (g : (S16x100000.Idx → Elt F .f32) → S16x100000.Idx → Elt F .f32) (x : S128x100000.Idx → Elt F .f32) :
    v.read (Elt F) (v.writes (Elt F) f (rowPieces g x)) = assemble (n := 100000) g x :=
  read_eight v f (fun k => ⟨rowsRect k, g (rows k x)⟩) _ (fun k j => assemble_rows g x k j) fun i =>
    ⟨blkOf i, inBlk i, funext fun a => Fin.ext (by
      rw [Rect.emb_apply]
      match a with
      | ⟨0, _⟩ => show 16 * ((i 0).val / 16) + 1 * ((i 0).val % 16) = (i 0).val; omega
      | ⟨1, _⟩ => show 0 + 1 * (i 1).val = (i 1).val; omega)⟩

/-- Writing the eight blocks of one column leaves the column they make up. -/
theorem read_colPieces {κ : Kind} {sp : Space} {e : EltTy} (v : View sig κ sp S128x1 e) (f : v.ty.Contents (Elt F))
    (g : (S16x100000.Idx → Elt F .f32) → S16x1.Idx → Elt F e) (x : S128x100000.Idx → Elt F .f32) :
    v.read (Elt F) (v.writes (Elt F) f (colPieces e g x)) = assemble (n := 1) g x :=
  read_eight v f (fun k => ⟨colRect k, g (rows k x)⟩) _ (fun k j => assemble_col g x k j) fun i =>
    ⟨blkOf i, inBlk i, funext fun a => Fin.ext (by
      rw [Rect.emb_apply]
      match a with
      | ⟨0, _⟩ => show 16 * ((i 0).val / 16) + 1 * ((i 0).val % 16) = (i 0).val; omega
      | ⟨1, _⟩ => show 0 + 1 * (i 1).val = (i 1).val; omega)⟩

end Cert.Proof

end
-- ==== Proof.Body.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A buffer of the chip's memory holding `f`. -/
abbrev hbPt (c : Dev nD) (b : Ref sig .tc) (f : Buf (Elt F) ((Memref.whole b).view.loc (c : Thread nD τ))) : sProp 𝕄 :=
  (Memref.whole b).view.loc (c : Thread nD τ) ↦{fullShare} f

set_option sl_exec.dmaWindow true in
/-- The kernel's body run once: the pieces it leaves in the two windows and in the two result
    arrays its copies write, whatever the three scratch buffers held before. -/
noncomputable def kernelRun (c : Dev nD)
    (arg3 : Memref sig .tc .vmem S128x1 .i32) (harg3 : arg3.IsWhole) (arg4 : Memref sig .tc .vmem S128x1 .f32) (harg4 : arg4.IsWhole)
    (x : Buf (Elt F) ((c : Thread nD τ).loc main_arg0))
    (s0 : Buf (Elt F) ((Memref.whole cc0_scratch0).view.loc (c : Thread nD τ)))
    (s1 : Buf (Elt F) ((Memref.whole cc0_scratch1).view.loc (c : Thread nD τ)))
    (s2 : Buf (Elt F) ((Memref.whole cc0_scratch2).view.loc (c : Thread nD τ))) :
    { L : List (View.Piece (Elt F) S128x1 .i32) × List (View.Piece (Elt F) S128x1 .f32)
          × List (View.Piece (Elt F) S128x100000 .f32) × List (View.Piece (Elt F) S128x100000 .f32) //
      ∀ (W : Waits sig Unit) (K : PUnit → sProp 𝕄),
        iprop((∃ d, owns (c : Thread nD τ) arg3 fullShare d) ∗ (∃ d, owns (c : Thread nD τ) arg4 fullShare d)
            ∗ hbPt c cc0_scratch0 s0 ∗ hbPt c cc0_scratch1 s1 ∗ hbPt c cc0_scratch2 s2
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ hbPt c main_arg0 x ∗ (∃ f, hbPt c main_v0_0 f) ∗ (∃ f, hbPt c main_v0_1 f)
            ∗ owes (c : Thread nD τ) 0 W
            ∗ (iprop((∃ f, arg3.view.loc (c : Thread nD τ) ↦[arg3.view.set]{fullShare} arg3.view.writes (Elt F) f L.1)
            ∗ (∃ f, arg4.view.loc (c : Thread nD τ) ↦[arg4.view.set]{fullShare} arg4.view.writes (Elt F) f L.2.1)
            ∗ (∃ f, hbPt c cc0_scratch0 f) ∗ (∃ f, hbPt c cc0_scratch1 f) ∗ (∃ f, hbPt c cc0_scratch2 f)
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ hbPt c main_arg0 x
            ∗ (∃ f, hbPt c main_v0_0 ((Memref.whole main_v0_0).view.writes (Elt F) f L.2.2.1))
            ∗ (∃ f, hbPt c main_v0_1 ((Memref.whole main_v0_1).view.writes (Elt F) f L.2.2.2))
            ∗ (∃ W', owes (c : Thread nD τ) 0 W')) -∗ K ⟨⟩))
          ⊢ wp frame (wpE (defs₀ (F := F)) Variants.none c none) Set.univ
              (cc0__sampler_body (Memref.whole main_arg0) (Memref.isWhole_whole _) (Memref.whole main_v0_0) (Memref.isWhole_whole _) (Memref.whole main_v0_1) (Memref.isWhole_whole _) arg3 harg3 arg4 harg4 (Memref.whole cc0_scratch0) (Memref.isWhole_whole _) (Memref.whole cc0_scratch1) (Memref.isWhole_whole _) (Memref.whole cc0_scratch2) (Memref.isWhole_whole _) cc0_scratch3 cc0_scratch4 cc0_scratch5) K } := by
  refine ⟨(?_, ?_, ?_, ?_), fun W K => ?run⟩
  case run =>
    simp only [cc0__sampler_body_eq_skeleton]; unfold cc0__sampler_body_skel
    unfold owns
    iintro ⟨⟨%d3, %f3, -, H3⟩, ⟨%d4, %f4, -, H4⟩, HS0, HS1, HS2, Hq2, Hq3, Hq4, Hq5, Hq6, Hq7, Hx, ⟨%o0, Ho0⟩, ⟨%o1, Ho1⟩, HW, Hk⟩
    sl_exec
    sl_step
    iapply Hk
    isplitl [H3]; · iexists _; iexact H3
    isplitl [H4]; · iexists _; iexact H4
    isplitl [HS0]; · iexists _; iexact HS0
    isplitl [HS1]; · iexists _; iexact HS1
    isplitl [HS2]; · iexists _; iexact HS2
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hx]; · iexact Hx
    isplitl [Ho0]; · iexists _; iexact Ho0
    isplitl [Ho1]; · iexists _; iexact Ho1
    iexists _; iexact HW

end Cert.Proof.Body

end
-- ==== Proof.Pieces.lean ====
module

public import proofs.«01_k».proof.Proof.Block
public import proofs.«01_k».proof.Proof.Body

@[expose] public section

/-! The pieces the kernel's body leaves are the blocks' values: each load reads the block its copy
    brought in, and each copy out reads what was stored in its slot last. -/

noncomputable section

namespace Cert.Proof

open Cert.KernelIdeal Cert.KernelIdeal.Gen Cert.Proof.Body
open Idealize.ShloMosaic Idealize.ShloMosaic.TcCoe

variable {F : FTy → Type} [FloatOps F]

/-! ## Reading a slot after it was written -/

section Slot

variable {sp : Space} {s : Shape} {e : EltTy} (v : View sig .tc sp s e) (f : v.ty.Contents (Elt F))

/-- A load of the rectangle a squeezed write just filled reads the payload, re-indexed. -/
theorem load_hit (r : Rect s) {s' : Shape} (h : s'.numel = r.shape.numel) (d : s'.Idx → Elt F e) :
    v.readAt (Elt F) r.toLoadRect (((v.slice r).reshape s' h).write (Elt F) f d Finset.univ)
      = fun j => d ((Shape.reshapeEquiv h).symm j) := by
  rw [View.write_reshape_univ]
  exact funext fun j => View.read_slice_write_emb r f _ (Finset.mem_univ j)

/-- A load of a rectangle a squeezed write does not meet reads what was there before. -/
theorem load_miss (r r' : Rect s) {s' : Shape} (h : s'.numel = r'.shape.numel) (d : s'.Idx → Elt F e) (hd : Disjoint r.set r'.set) :
    v.readAt (Elt F) r.toLoadRect (((v.slice r').reshape s' h).write (Elt F) f d Finset.univ)
      = v.readAt (Elt F) r.toLoadRect f := by
  rw [View.write_reshape_univ]
  refine funext fun j => View.read_slice_write_of_not_mem r' f _ _ fun hm => ?_
  obtain ⟨k, -, hk⟩ := Finset.mem_map.1 hm
  exact Finset.disjoint_left.1 hd (r.toLoadRect.idx_mem j) (hk ▸ r'.toLoadRect.idx_mem k)

/-- A copy out of the squeezed rectangle stored last reads what was stored, re-indexed. -/
theorem copy_hit (r : Rect s) {s' : Shape} (h : s'.numel = r.shape.numel) (p : r.shape.Idx → Elt F e)
    (L : List (View.Piece (Elt F) s e)) :
    ((v.slice r).reshape s' h).read (Elt F) (v.writes (Elt F) f (⟨r, p⟩ :: L)) = fun j => p (Shape.reshapeEquiv h j) :=
  funext fun j => View.read_writes_cons_emb v f r p L (Shape.reshapeEquiv h j)

end Slot

/-- The first of two slots. -/
abbrev slot0 : Rect S2x16x100000 := Rect.unit ![0, 0, 0] S1x16x100000.size inb_S2x16x100000_S1x16x100000_0_0_0
/-- The second of two slots. -/
abbrev slot1 : Rect S2x16x100000 := Rect.unit ![1, 0, 0] S1x16x100000.size inb_S2x16x100000_S1x16x100000_1_0_0

/-- The two slots do not meet. -/
theorem slots_disjoint : Disjoint slot0.set slot1.set :=
  Finset.disjoint_left.2 fun i h0 h1 => by
    have a := (Rect.mem_set_unit.1 h0 0).2
    have b := (Rect.mem_set_unit.1 h1 0).1
    exact absurd (lt_of_le_of_lt b a) (by decide)

section Pieces

variable (c : Dev nD) (x : Buf (Elt F) ((c : Thread nD τ).loc main_arg0))
  (s0 : Buf (Elt F) ((Memref.whole cc0_scratch0).view.loc (c : Thread nD τ)))
  (s1 : Buf (Elt F) ((Memref.whole cc0_scratch1).view.loc (c : Thread nD τ)))
  (s2 : Buf (Elt F) ((Memref.whole cc0_scratch2).view.loc (c : Thread nD τ)))

/-! ## The eight loads -/

/-- Load 0 reads block 0's rows. -/
theorem load0 : kernelRun.sl.v15 c x s0 = slab (rows 0 x) :=
  (load_miss _ _ slot0 slot1 _ _ slots_disjoint).trans (load_hit _ _ slot0 _ _)
/-- Load 1 reads block 1's rows. -/
theorem load1 : kernelRun.sl.v68 c x s0 = slab (rows 1 x) :=
  (load_miss _ _ slot1 slot0 _ _ slots_disjoint.symm).trans (load_hit _ _ slot1 _ _)
/-- Load 2 reads block 2's rows. -/
theorem load2 : kernelRun.sl.v131 c x s0 = slab (rows 2 x) :=
  (load_miss _ _ slot0 slot1 _ _ slots_disjoint).trans (load_hit _ _ slot0 _ _)
/-- Load 3 reads block 3's rows. -/
theorem load3 : kernelRun.sl.v194 c x s0 = slab (rows 3 x) :=
  (load_miss _ _ slot1 slot0 _ _ slots_disjoint.symm).trans (load_hit _ _ slot1 _ _)
/-- Load 4 reads block 4's rows. -/
theorem load4 : kernelRun.sl.v257 c x s0 = slab (rows 4 x) :=
  (load_miss _ _ slot0 slot1 _ _ slots_disjoint).trans (load_hit _ _ slot0 _ _)
/-- Load 5 reads block 5's rows. -/
theorem load5 : kernelRun.sl.v320 c x s0 = slab (rows 5 x) :=
  (load_miss _ _ slot1 slot0 _ _ slots_disjoint.symm).trans (load_hit _ _ slot1 _ _)
/-- Load 6 reads block 6's rows. -/
theorem load6 : kernelRun.sl.v383 c x s0 = slab (rows 6 x) :=
  (load_miss _ _ slot0 slot1 _ _ slots_disjoint).trans (load_hit _ _ slot0 _ _)
/-- Load 7 reads block 7's rows. -/
theorem load7 : kernelRun.sl.v c x s0 = slab (rows 7 x) := load_hit _ _ slot1 _ _

/-! ## The pieces -/

/-- A copy out of a slot reads the block whose slab was stored there last. -/
theorem copy_out {sp : Space} (v : View sig .tc sp S2x16x100000 .f32) (f : v.ty.Contents (Elt F)) (r : Rect S2x16x100000)
    (h : S16x100000.numel = r.shape.numel) (h' : S16x100000.ShapeCasts r.shape)
    (b : FVec F S16x100000 .f32) (L : List (View.Piece (Elt F) S2x16x100000 .f32)) :
    ((v.slice r).reshape S16x100000 h).read (Elt F) (v.writes (Elt F) f (⟨r, shapeCast r.shape b h'⟩ :: L)) = b := by
  rw [copy_hit]
  exact funext fun j => congrArg b ((Shape.reshapeEquiv_reshapeEquiv h' h j).trans (Shape.reshapeEquiv_self _ j))

variable (a3 : Memref sig .tc .vmem S128x1 .i32) (h3 : a3.IsWhole) (a4 : Memref sig .tc .vmem S128x1 .f32) (h4 : a4.IsWhole)

/-- The eight pieces of the tokens' window. -/
theorem tokens_pieces : (kernelRun c a3 h3 a4 h4 x s0 s1 s2).1.1 = colPieces .i32 blkTokens x := by
  unfold kernelRun
  dsimp only
  simp only [kernelRun.sl.r, kernelRun.sl.r_1, kernelRun.sl.r_5, kernelRun.sl.r_6, kernelRun.sl.r_10, kernelRun.sl.r_11,
    kernelRun.sl.r_14, kernelRun.sl.r_15, kernelRun.sl.r_19, kernelRun.sl.r_20, kernelRun.sl.r_25, kernelRun.sl.r_26,
    kernelRun.sl.r_28, kernelRun.sl.r_29, kernelRun.sl.r_30, kernelRun.sl.r_33,
    load0, load1, load2, load3, load4, load5, load6, load7]
  rfl

/-- The eight pieces of the window of the tokens' log-probabilities. -/
theorem sample_pieces : (kernelRun c a3 h3 a4 h4 x s0 s1 s2).1.2.1 = colPieces .f32 blkSample x := by
  unfold kernelRun
  dsimp only
  simp only [kernelRun.sl.r_3, kernelRun.sl.r_8, kernelRun.sl.r_13, kernelRun.sl.r_17, kernelRun.sl.r_24, kernelRun.sl.r_23,
    kernelRun.sl.r_27, kernelRun.sl.r_25, kernelRun.sl.r_26, kernelRun.sl.r_31, kernelRun.sl.r_32,
    load0, load1, load2, load3, load4, load5, load6, load7]
  rfl

/-! Each copy of a block of probabilities, and of log-probabilities, reads that block. -/

/-- The copy of block 0's probabilities carries them. -/
theorem probs0 : kernelRun.sl.dma3 c x s0 s1 = blkProbs (rows 0 x) :=
  (copy_out _ _ slot0 _ shapeCasts_S16x100000_S1x16x100000 _ _).trans (congrArg k0_pay6 (load0 c x s0))
/-- The copy of block 1's probabilities carries them. -/
theorem probs1 : kernelRun.sl.dma12 c x s0 s1 = blkProbs (rows 1 x) :=
  (copy_out _ _ slot1 _ shapeCasts_S16x100000_S1x16x100000 _ _).trans (congrArg k0_pay6 (load1 c x s0))
/-- The copy of block 2's probabilities carries them. -/
theorem probs2 : kernelRun.sl.dma21 c x s0 s1 = blkProbs (rows 2 x) :=
  (copy_out _ _ slot0 _ shapeCasts_S16x100000_S1x16x100000 _ _).trans (congrArg k0_pay6 (load2 c x s0))
/-- The copy of block 3's probabilities carries them. -/
theorem probs3 : kernelRun.sl.dma30 c x s0 s1 = blkProbs (rows 3 x) :=
  (copy_out _ _ slot1 _ shapeCasts_S16x100000_S1x16x100000 _ _).trans (congrArg k0_pay6 (load3 c x s0))
/-- The copy of block 4's probabilities carries them. -/
theorem probs4 : kernelRun.sl.dma39 c x s0 s1 = blkProbs (rows 4 x) :=
  (copy_out _ _ slot0 _ shapeCasts_S16x100000_S1x16x100000 _ _).trans (congrArg k0_pay6 (load4 c x s0))
/-- The copy of block 5's probabilities carries them. -/
theorem probs5 : kernelRun.sl.dma48 c x s0 s1 = blkProbs (rows 5 x) :=
  (copy_out _ _ slot1 _ shapeCasts_S16x100000_S1x16x100000 _ _).trans (congrArg k0_pay6 (load5 c x s0))
/-- The copy of block 6's probabilities carries them. -/
theorem probs6 : kernelRun.sl.dma57 c x s0 s1 = blkProbs (rows 6 x) :=
  (copy_out _ _ slot0 _ shapeCasts_S16x100000_S1x16x100000 _ _).trans (congrArg k0_pay6 (load6 c x s0))
/-- The copy of block 7's probabilities carries them. -/
theorem probs7 : kernelRun.sl.dma66 c x s0 s1 = blkProbs (rows 7 x) :=
  (copy_out _ _ slot1 _ shapeCasts_S16x100000_S1x16x100000 _ _).trans (congrArg k0_pay6 (load7 c x s0))

/-- The copy of block 0's log-probabilities carries them. -/
theorem logs0 : kernelRun.sl.dma5 c x s0 s2 = blkLogs (rows 0 x) :=
  (copy_out _ _ slot0 _ shapeCasts_S16x100000_S1x16x100000 _ _).trans (congrArg logsOf (load0 c x s0))
/-- The copy of block 1's log-probabilities carries them. -/
theorem logs1 : kernelRun.sl.dma14 c x s0 s2 = blkLogs (rows 1 x) :=
  (copy_out _ _ slot1 _ shapeCasts_S16x100000_S1x16x100000 _ _).trans (congrArg logsOf (load1 c x s0))
/-- The copy of block 2's log-probabilities carries them. -/
theorem logs2 : kernelRun.sl.dma23 c x s0 s2 = blkLogs (rows 2 x) :=
  (copy_out _ _ slot0 _ shapeCasts_S16x100000_S1x16x100000 _ _).trans (congrArg logsOf (load2 c x s0))
/-- The copy of block 3's log-probabilities carries them. -/
theorem logs3 : kernelRun.sl.dma32 c x s0 s2 = blkLogs (rows 3 x) :=
  (copy_out _ _ slot1 _ shapeCasts_S16x100000_S1x16x100000 _ _).trans (congrArg logsOf (load3 c x s0))
/-- The copy of block 4's log-probabilities carries them. -/
theorem logs4 : kernelRun.sl.dma41 c x s0 s2 = blkLogs (rows 4 x) :=
  (copy_out _ _ slot0 _ shapeCasts_S16x100000_S1x16x100000 _ _).trans (congrArg logsOf (load4 c x s0))
/-- The copy of block 5's log-probabilities carries them. -/
theorem logs5 : kernelRun.sl.dma50 c x s0 s2 = blkLogs (rows 5 x) :=
  (copy_out _ _ slot1 _ shapeCasts_S16x100000_S1x16x100000 _ _).trans (congrArg logsOf (load5 c x s0))
/-- The copy of block 6's log-probabilities carries them. -/
theorem logs6 : kernelRun.sl.dma59 c x s0 s2 = blkLogs (rows 6 x) :=
  (copy_out _ _ slot0 _ shapeCasts_S16x100000_S1x16x100000 _ _).trans (congrArg logsOf (load6 c x s0))
/-- The copy of block 7's log-probabilities carries them. -/
theorem logs7 : kernelRun.sl.dma68 c x s0 s2 = blkLogs (rows 7 x) :=
  (copy_out _ _ slot1 _ shapeCasts_S16x100000_S1x16x100000 _ _).trans (congrArg logsOf (load7 c x s0))

/-- The eight pieces of the probabilities. -/
theorem probs_pieces : (kernelRun c a3 h3 a4 h4 x s0 s1 s2).1.2.2.1 = rowPieces blkProbs x := by
  unfold kernelRun
  dsimp only
  rw [probs0, probs1, probs2, probs3, probs4, probs5, probs6, probs7]
  rfl

/-- The eight pieces of the log-probabilities. -/
theorem logs_pieces : (kernelRun c a3 h3 a4 h4 x s0 s1 s2).1.2.2.2 = rowPieces blkLogs x := by
  unfold kernelRun
  dsimp only
  rw [logs0, logs1, logs2, logs3, logs4, logs5, logs6, logs7]
  rfl

end Pieces

end Cert.Proof

end
-- ==== Proof.Launch.lean ====
module

public import proofs.«01_k».proof.Proof.Pieces
public import proofs.«01_k».proof.Proof.Gen.KernelIdeal.Frame
public import Idealize.ShloMosaic.Lib.Pipeline.FrameSuffixV

@[expose] public section

/-! The kernel's launch: its one grid point run by `kernelRun`, and what its result arrays hold at the end. -/

noncomputable section

namespace Cert.Proof.Launch

open Cert.KernelIdeal Cert.KernelIdeal.Gen Cert.Proof.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The logits on core `c`. -/
abbrev logits (c : Dev nD) : S128x100000.Idx → Elt F .f32 := m ((c : Thread nD τ).loc main_arg0)

/-- The buffer the body's copies read, and the two they write. -/
def H0 : Finset (Ref sig .tc) := {main_arg0}
/-- The buffers that the body writes by its own copies: the probabilities and the log-probabilities. -/
def R0 : Finset (Ref sig .tc) := {main_v0_0, main_v0_1}
/-- The logits are no window's array. -/
theorem H0_sub : H0 ⊆ Pipeline.restRefs sig spec0 := by decide
/-- The two copied results are no window's array, nor the logits. -/
theorem R0_sub : R0 ⊆ Pipeline.restRefs sig spec0 \ H0 := by decide

/-- The six semaphores of the body's copies. -/
abbrev osem0 : Fin 6 → SemLoc sig := fun j =>
  (![SemLoc.dma 2, SemLoc.dma 3, SemLoc.dma 4, SemLoc.dma 5, SemLoc.dma 6, SemLoc.dma 7] : Fin 6 → SemLoc sig) j
/-- The body's own semaphores are distinct, and no window's. -/
theorem ownSemFacts0 : Pipeline.OwnSemFacts spec0 osem0 := by decide

/-- What the two arrays the copies write hold at the end; any other buffer is as at the launch. -/
def G (c : Dev nD) : (b : Ref sig .tc) → Buf (Elt F) ((c : Thread nD τ).loc b) :=
  Function.update (Function.update (V m c) main_v0_0 (assemble (n := 100000) blkProbs (logits m c)))
    main_v0_1 (assemble (n := 100000) blkLogs (logits m c))

/-- The first result's buffer ends as the assembled probabilities. -/
theorem G_probs (c : Dev nD) : G m c main_v0_0 = assemble (n := 100000) blkProbs (logits m c) := by
  unfold G
  rw [Function.update_of_ne (by decide), Function.update_self]

/-- The second result's buffer ends as the assembled log-probabilities. -/
theorem G_logs (c : Dev nD) : G m c main_v0_1 = assemble (n := 100000) blkLogs (logits m c) := by
  unfold G
  rw [Function.update_self]

/-- The body's semaphores at zero, one by one. -/
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0) := by
  rw [Pipeline.ownSems0_eq_of_list c osem0 [0, 1, 2, 3, 4, 5] (by decide) (by decide)]; rfl

/-- What the body may read: the logits. -/
theorem read_eq (c : Dev nD) :
    (bigSep H0 (fun b => ((c : Thread nD τ).loc b) ↦{fullShare} V m c b) : sProp 𝕄) = hbPt c main_arg0 (logits m c) := by
  rw [BI.bigSep_eq_bigSepL_of_eq [main_arg0] (by decide) (by decide)]; rfl

/-- What the body may write: the two results that its copies fill. -/
theorem written_eq (c : Dev nD) (g : (b : Ref sig .tc) → Buf (Elt F) ((c : Thread nD τ).loc b)) :
    (bigSep R0 (fun b => ((c : Thread nD τ).loc b) ↦{fullShare} g b) : sProp 𝕄)
      = iprop(hbPt c main_v0_0 (g main_v0_0) ∗ hbPt c main_v0_1 (g main_v0_1)) := by
  rw [BI.bigSep_eq_bigSepL_of_eq [main_v0_0, main_v0_1] (by decide) (by decide)]; rfl

/-- The invariant at contents `g` of the written arrays, written out. -/
theorem inv_eq (g : (c : Dev nD) → (b : Ref sig .tc) → Buf (Elt F) ((c : Thread nD τ).loc b)) (c : Dev nD) :
    (Pipeline.ΦDRV osem0 spec0 H0 R0 (V m) g c : sProp 𝕄)
      = iprop(((∃ f, hbPt c cc0_scratch0 f) ∗ (∃ f, hbPt c cc0_scratch1 f) ∗ (∃ f, hbPt c cc0_scratch2 f))
          ∗ (semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0)
          ∗ hbPt c main_arg0 (logits m c) ∗ hbPt c main_v0_0 (g c main_v0_0) ∗ hbPt c main_v0_1 (g c main_v0_1)) := by
  unfold Pipeline.ΦDRV
  rw [scopedRest0_eq, ownSems_eq, read_eq, written_eq]

/-- The data of the one pipeline on core `c`: the two windows' arrays hold the tokens and their log-probabilities after
    the one point, whose run takes the written arrays from their launch contents to `G`'s. -/
def dats (_ : Fin 1) (c : Dev nD) : Dat τ (Elt F) Unit ℕ (Pipeline.UD sig nD τ) ℕ cfg0 c where
  A w := V m c (Pipeline.arrRef spec0 w)
  after w t := match w with
    | ⟨0, _⟩ => assemble (n := 1) blkTokens (logits m c)
    | ⟨1, _⟩ => assemble (n := 1) blkSample (logits m c)
  Φ i := if i.val = 0 then Pipeline.ΦDRV osem0 spec0 H0 R0 (V m) (V m) c else Pipeline.ΦDRV osem0 spec0 H0 R0 (V m) (G m) c
  q _ := fullShare
  owed _ := 0

/-- A window's array begins as the launch memory holds it. -/
theorem A_eq (c : Dev nD) (w : Fin cfg0.W) : (dats m 0 c).A w = V m c (Pipeline.arrRef spec0 w) := by dsimp only [dats]
/-- The body leaves the tokens in the first window. -/
theorem after_0 (c : Dev nD) (t : Fin cfg0.N) : (dats m 0 c).after 0 t = assemble (n := 1) blkTokens (logits m c) := by
  dsimp only [dats]
/-- The body leaves the sampled log-probabilities in the second window. -/
theorem after_1 (c : Dev nD) (t : Fin cfg0.N) : (dats m 0 c).after 1 t = assemble (n := 1) blkSample (logits m c) := by
  dsimp only [dats]

/-- What the body carries in: the two copied results as they began. -/
theorem Φ_first (c : Dev nD) (t : Fin cfg0.N) :
    (dats m 0 c).Φ t.castSucc = Pipeline.ΦDRV osem0 spec0 H0 R0 (V m) (V m) c := by
  rw [fin_N0 t]; rfl
/-- What the body carries out: the two copied results filled. -/
theorem Φ_last (c : Dev nD) (t : Fin cfg0.N) :
    (dats m 0 c).Φ t.succ = Pipeline.ΦDRV osem0 spec0 H0 R0 (V m) (G m) c := by
  rw [fin_N0 t]; rfl

/-- All that the body holds when it starts. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
/-- All that the body holds when it ends. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body, run from what it holds at the start, ends with what it should hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Φ_first, Φ_last, after_0, after_1, inv_eq, inv_eq, G_probs, G_logs]
  unfold Dat.owesAt Pipeline.owesWithin
  rw [show (dats m 0 c).owed t.castSucc = 0 from rfl, show (dats m 0 c).owed t.succ = 0 from rfl]
  iintro ⟨⟨⟨⟨%s0, HS0⟩, ⟨%s1, HS1⟩, ⟨%s2, HS2⟩⟩, ⟨Hq2, Hq3, Hq4, Hq5, Hq6, Hq7⟩, Hx, Ho0, Ho1⟩, ⟨%W, -, HW⟩, ⟨%d3, H3⟩, ⟨%d4, H4⟩⟩
  iapply ((kernelRun c _ _ _ _ (logits m c) s0 s1 s2).2 W _)
  isplitl [H3]; · iexists _; iexact H3
  isplitl [H4]; · iexists _; iexact H4
  isplitl [HS0]; · iexact HS0
  isplitl [HS1]; · iexact HS1
  isplitl [HS2]; · iexact HS2
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hx]; · iexact Hx
  isplitl [Ho0]; · iexists _; iexact Ho0
  isplitl [Ho1]; · iexists _; iexact Ho1
  isplitl [HW]; · iexact HW
  rw [tokens_pieces, sample_pieces, probs_pieces, logs_pieces]
  iintro ⟨⟨%e3, H3⟩, ⟨%e4, H4⟩, HS0, HS1, HS2, Hq2, Hq3, Hq4, Hq5, Hq6, Hq7, Hx, ⟨%o0, Ho0⟩, ⟨%o1, Ho1⟩, ⟨%W', HW'⟩⟩
  isplitl [HS0 HS1 HS2 Hq2 Hq3 Hq4 Hq5 Hq6 Hq7 Hx Ho0 Ho1]
  · isplitl [HS0 HS1 HS2]
    · isplitl [HS0]; · iexact HS0
      isplitl [HS1]; · iexact HS1
      iexact HS2
    isplitl [Hq2 Hq3 Hq4 Hq5 Hq6 Hq7]
    · isplitl [Hq2]; · iexact Hq2
      isplitl [Hq3]; · iexact Hq3
      isplitl [Hq4]; · iexact Hq4
      isplitl [Hq5]; · iexact Hq5
      isplitl [Hq6]; · iexact Hq6
      iexact Hq7
    isplitl [Hx]; · iexact Hx
    isplitl [Ho0]
    · rw [show (Memref.whole main_v0_0).view.writes (Elt F) o0 (rowPieces blkProbs (logits m c)) = assemble (n := 100000) blkProbs (logits m c) from
        (View.read_whole _ _).symm.trans (read_rowPieces (Memref.whole main_v0_0).view o0 blkProbs (logits m c))]
      iexact Ho0
    rw [show (Memref.whole main_v0_1).view.writes (Elt F) o1 (rowPieces blkLogs (logits m c)) = assemble (n := 100000) blkLogs (logits m c) from
        (View.read_whole _ _).symm.trans (read_rowPieces (Memref.whole main_v0_1).view o1 blkLogs (logits m c))]
    iexact Ho1
  isplitl [HW']
  · iexists W'; isplitr; · ipureintro; exact fun _ _ => Or.inl trivial
    iexact HW'
  isplitl [H3]
  · unfold owns; iexists _; isplitr
    swap; · iexact H3
    ipureintro; exact read_colPieces _ _ _ _
  unfold owns; iexists _; isplitr
  swap; · iexact H4
  ipureintro; exact read_colPieces _ _ _ _

/-- The launch's procedure at its grid point is the printed body. -/
theorem defs₀_row (t : Fin cfg0.N) :
    defs₀ (F := F) .tc cfg0.body (cfg0.bodyArgs t (cfg0.slots t)) = bodyAt0 t := by
  unfold defs₀; rw [Defs.onTc_tc]

/-- The body meets what the launch asks of it at each grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The program is its launch, then its host operations. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

set_option backward.isDefEq.respectTransparency.types false in
/-- The whole program runs, its arrays ending as the launch and the host operations after it leave them. -/
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after [hostOps1].flatten (Pipeline.withArrays spec0 c (Pipeline.withR (V0 m c) R0 c (G m c)) fun w => (dats m 0 c).arrAt w cfg0.N) (Proc.devRef .tc b))
      ∧ r.2.sem = fun _ => 0) :=
  Pipeline.θ_run_frame_dmaR_aroundV (Q' := _) (hQ' := fun _ h => h) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmain m Variants.none) (hA := A_eq m)
    (hin := fun _ => .rfl) (hout := fun _ => .rfl)

end Cert.Proof.Launch

end
-- ==== Proof.Results.lean ====
module

public import proofs.«01_k».proof.Proof.Launch
public import Idealize.ShloMosaic.Lib.Pipeline.ValueKit

@[expose] public section

/-! What the kernel's program leaves in its four results. -/

noncomputable section

namespace Cert.Proof.Launch

open Cert.KernelIdeal Cert.KernelIdeal.Gen Cert.Proof.Body
open Idealize.ShloMosaic Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-- Window 0's one block is its whole array: it covers it, each place where it is. -/
theorem covers_0 : (cfg0.win 0).Covers := by decide +kernel
/-- The first window's block is placed at the array's origin. -/
theorem place_0 (t : Fin cfg0.N) (y : ((cfg0.win 0).xblock (cfg0.grid.coords t)).Idx) :
    (cfg0.win 0).xinj (cfg0.grid.coords t) y = ((cfg0.win 0).blk t).view.emb y :=
  funext fun a => Fin.ext (by simp; exact Or.inl rfl)

/-- Window 0's array ends at the column of the tokens. -/
theorem final_tokens (c : Dev nD) : (dats m 0 c).arrAt 0 cfg0.N = assemble (n := 1) blkTokens (logits m c) := by
  have h := after_0 m c
  revert h
  generalize assemble (n := 1) blkTokens (logits m c) = T
  intro h
  refine (dats m 0 c).arrAt_eq_of_covers 0 T covers_0 fun t _ y => ?_
  rw [h]
  exact (cast_eq _ _).trans (congrArg T (place_0 t y))

/-- Window 1's one block is its whole array: it covers it, each place where it is. -/
theorem covers_1 : (cfg0.win 1).Covers := by decide +kernel
/-- The second window's block is placed at the array's origin. -/
theorem place_1 (t : Fin cfg0.N) (y : ((cfg0.win 1).xblock (cfg0.grid.coords t)).Idx) :
    (cfg0.win 1).xinj (cfg0.grid.coords t) y = ((cfg0.win 1).blk t).view.emb y :=
  funext fun a => Fin.ext (by simp; exact Or.inl rfl)

/-- Window 1's array ends at the column of the tokens' log-probabilities. -/
theorem final_sample (c : Dev nD) : (dats m 0 c).arrAt 1 cfg0.N = assemble (n := 1) blkSample (logits m c) := by
  have h := after_1 m c
  revert h
  generalize assemble (n := 1) blkSample (logits m c) = T
  intro h
  refine (dats m 0 c).arrAt_eq_of_covers 1 T covers_1 fun t _ y => ?_
  rw [h]
  exact (cast_eq _ _).trans (congrArg T (place_1 t y))

/-- The memory the line after the kernel reads. -/
abbrev atTail (c : Dev nD) : Valuation τ sig (Elt F) :=
  Pipeline.withArrays spec0 c (Pipeline.withR (V0 m c) R0 c (G m c)) fun w => (dats m 0 c).arrAt w cfg0.N

/-- A buffer that is no window's array and that the line after the kernel does not write keeps its contents. -/
theorem untouched (c : Dev nD) (b : Ref sig .tc) (hw : ∀ w, Pipeline.arrRef spec0 w ≠ b) (hb : b ≠ main_v1) :
    StableHlo.after [hostOps1].flatten (atTail m c) (Proc.devRef .tc b) = Pipeline.withR (V0 m c) R0 c (G m c) (Proc.devRef .tc b) := by
  rw [← Pipeline.withArrays_of_ne spec0 c (Pipeline.withR (V0 m c) R0 c (G m c)) (fun w => (dats m 0 c).arrAt w cfg0.N) b hw]
  exact StableHlo.reshape_result_ne _ _ _ _ _ _ _ hb

/-- THE RUN: the kernel's program ends with the four results made up of the eight blocks' values, the logits as they
    were, and every semaphore at zero. -/
theorem run : θ_run defs (onTc (τ := τ) (main (F := F))) ⟨m, fun _ => 0, ρ⟩ (fun r => (∀ c : Dev nD,
      r.2.mem ((c.tc : Thread nD τ).loc main_v0_0) = assemble (n := 100000) blkProbs (logits m c)
      ∧ r.2.mem ((c.tc : Thread nD τ).loc main_v0_1) = assemble (n := 100000) blkLogs (logits m c)
      ∧ r.2.mem ((c.tc : Thread nD τ).loc main_v1)
          = (shapeCast S128 (assemble (n := 1) blkTokens (logits m c)) shapeCasts_S128x1_S128 : S128.Idx → Elt F .i32)
      ∧ r.2.mem ((c.tc : Thread nD τ).loc main_v0_3) = assemble (n := 1) blkSample (logits m c)
      ∧ r.2.mem ((c.tc : Thread nD τ).loc main_arg0) = m ((c.tc : Thread nD τ).loc main_arg0))
      ∧ r.2.sem = fun _ => 0) := by
  refine (θ_run defs _ _).mono (fun r h => ⟨fun c => ?_, h.2⟩) (run_main m ρ)
  have hr := (h.1 c).2
  refine ⟨?_, ?_, ?_, ((h.1 c).1 1).trans (final_sample m c), ?_⟩
  · rw [hr main_v0_0 (Pipeline.mem_restRefs_of main_v0_0 (by decide) (by decide))]
    exact (untouched m c main_v0_0 (by decide) (by decide)).trans ((Pipeline.withR_of_mem _ _ _ _ _ (by decide)).trans (G_probs m c))
  · rw [hr main_v0_1 (Pipeline.mem_restRefs_of main_v0_1 (by decide) (by decide))]
    exact (untouched m c main_v0_1 (by decide) (by decide)).trans ((Pipeline.withR_of_mem _ _ _ _ _ (by decide)).trans (G_logs m c))
  · rw [hr main_v1 (Pipeline.mem_restRefs_of main_v1 (by decide) (by decide))]
    show StableHlo.after hostOps1 (atTail m c) (Proc.devRef .tc main_v1) = _
    rw [StableHlo.after_cons, StableHlo.after_nil, StableHlo.reshape_result]
    rw [show atTail m c (Proc.devRef .tc main_v0_2) = assemble (n := 1) blkTokens (logits m c) from
      (Pipeline.withArrays_arr spec0 launch0.win.arr_inj c _ _ 0).trans (final_tokens m c)]
    rfl
  · rw [hr main_arg0 (Pipeline.mem_restRefs_of main_arg0 (by decide) (by decide))]
    exact (untouched m c main_arg0 (by decide) (by decide)).trans (Pipeline.withR_of_not_mem _ _ _ _ _ (by decide))

end Cert.Proof.Launch

end
-- ==== Proof.KernelFrame.lean ====
module

public import proofs.«01_k».proof.Proof.Results
public import proofs.«01_k».proof.Proof.Gen.Kernel
public import Idealize.ShloMosaic.Lib.Tactic

@[expose] public section

/-! The kernel's program in floating point: the same program as the one `Results` runs, so the run carries over. -/

noncomputable section

namespace Cert.Proof

open Idealize.ShloMosaic Idealize.ShloMosaic.TcCoe Idealize.SL.Sem

/-- The two programs have the same procedures. -/
theorem defs_eq : Cert.Kernel.defs (F := Bits) = Cert.KernelIdeal.defs (F := Bits) := by
  sl_kernel_rfl

/-- The two programs have the same main. -/
theorem main_eq : Cert.Kernel.main (F := Bits) = Cert.KernelIdeal.main (F := Bits) := by
  sl_kernel_rfl

/-- The run's frame, said of either program. -/
theorem ideal_frame {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0) :=
  (θ_run (Cert.KernelIdeal.defs (F := F)) _ _).mono (fun _ h => ⟨fun c => (h.1 c).2.2.2.2, h.2⟩) (Launch.run (F := F) m g)

/-- The floating-point program runs, leaves the logits as they were and every semaphore at zero. -/
theorem kernel_frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r =>
      (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0))
      ∧ r.2.sem = fun _ => 0) := by
  rw [defs_eq, main_eq]
  exact ideal_frame (F := Bits) m g

end Cert.Proof

end
-- ==== Proof.AllOnes.lean ====
module

public import Idealize.ShloMosaic.PureOps.Reduce

@[expose] public section

/-! A conjunction of bits along axes of an array, read at a place of its result. -/

namespace Cert.Proof

open Idealize.ShloMosaic

/-- Two bits' conjunction is one where both are. -/
theorem andi_one (a b : BitVec 1) : IntOp.andi a b = 1#1 ↔ a = 1#1 ∧ b = 1#1 := by
  revert a b
  decide

/-- A conjunction over a list is one where it starts at one and every entry is one. -/
theorem foldl_andi {α : Type} (x : α → BitVec 1) (l : List α) (b : BitVec 1) :
    l.foldl (fun r i => IntOp.andi r (x i)) b = 1#1 ↔ b = 1#1 ∧ ∀ i ∈ l, x i = 1#1 := by
  induction l generalizing b with
  | nil => simp
  | cons i l ih =>
    rw [List.foldl_cons, ih, andi_one, List.forall_mem_cons, and_assoc]

/-- A conjunction along axes is one at a place where every entry that reduces to the place is one. -/
theorem reduce_andi {s t u : Shape} {axes : List (Fin s.rank)} (x : IVec s 1) (init : IVec u 1) (h : s.ReducesTo axes t)
    (hu : 0 < u.numel) (hi : init (Shape.Idx.first hu) = 1#1) (j : t.Idx) :
    Host.reduce IntOp.andi x init h hu j = 1#1 ↔ ∀ i, h.drop i = j → x i = 1#1 := by
  rw [Host.reduce_eq_foldl, foldl_andi]
  constructor
  · rintro ⟨-, hx⟩ i hij
    refine hx i (List.mem_filter.2 ⟨List.mem_map.2 ⟨s.rowMajor i, List.mem_finRange _, s.rowMajor.symm_apply_apply i⟩, ?_⟩)
    exact decide_eq_true hij
  · intro hx
    exact ⟨hi, fun i h => hx i (of_decide_eq_true (List.mem_filter.1 h).2)⟩

end Cert.Proof
-- ==== Proof.RefRun.lean ====
module

public import Idealize.ShloMosaic.Lib.StableHlo.Run
public import Idealize.ShloMosaic.Lib.StableHlo.RunRead
public import Idealize.ShloMosaic.Lib.Quiescent
public import Idealize.ShloMosaic.Lib.Tactic
public import proofs.«01_k».proof.Proof.Gen.ReferenceIdeal

@[expose] public section

/-! The reference's run: what each of its four result arrays ends holding, as a function of the logits. -/

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- Each row's largest logit, by a fold that starts at `-inf`. -/
def refMax (x : FVec F S128x100000 .f32) : FVec F S128 .f32 :=
  maximumf (broadcastInDim S128 ![] bcast_S_S128 (constant S_ .f32 0xFF800000#32))
    (Host.reduce FloatOps.maximumf x (constant S_ .f32 0xFF800000#32) reducesTo_S128x100000_S128_d1 h_S_)

/-- A number per row, repeated along the row. -/
def along (v : FVec F S128x1 .f32) : FVec F S128x100000 .f32 :=
  broadcastInDim S128x100000 ![0, 1] bcast_S128x1_S128x100000_0_1 v

/-- The logits less their row's largest. -/
def refShift (x : FVec F S128x100000 .f32) : FVec F S128x100000 .f32 :=
  subf x (along (broadcastInDim S128x1 ![0] bcast_S128_S128x1_0 (refMax x)))

/-- Each row's sum of exponentials, as a column. -/
def refSum (x : FVec F S128x100000 .f32) : FVec F S128x1 .f32 :=
  broadcastInDim S128x1 ![0] bcast_S128_S128x1_0
    (Host.reduceAdd (Host.exp (refShift x)) (constant S_ .f32 0x00000000#32) reducesTo_S128x100000_S128_d1 h_S_)

/-- The probabilities. -/
def refProbs (x : FVec F S128x100000 .f32) : FVec F S128x100000 .f32 :=
  Host.divf (Host.exp (refShift x)) (along (refSum x))

/-- The log-probabilities. -/
def refLogs (x : FVec F S128x100000 .f32) : FVec F S128x100000 .f32 :=
  subf (refShift x) (along (Host.log (refSum x)))

/-- The second half of a two-array reduction's pairs. -/
def places {s t u : Shape} {axes : List (Fin s.rank)} (op : F .f32 × BitVec 32 → F .f32 × BitVec 32 → F .f32 × BitVec 32)
    (x : FVec F s .f32) (y : IVec s 32) (ix : FVec F u .f32) (iy : IVec u 32) (h : s.ReducesTo axes t) (hu : 0 < u.numel) :
    IVec t 32 := fun j => (Host.argReduce op x y ix iy h hu j).2

/-- The tokens: each row's first place of its largest logit. -/
def refTokens (x : FVec F S128x100000 .f32) : IVec S128 32 :=
  places reducer_argmax_f32_i32 x (iotaInDim S128x100000 32 1) (constant S_ .f32 0xFF800000#32) (constantI S_ 32 0#32)
    reducesTo_S128x100000_S128_d1 h_S_

/-- A column of indices, a negative one counted from the row's end. -/
def wrapped (t : IVec S128x1 32) : IVec S128x1x1 32 :=
  shapeCast S128x1x1
    (select (cmpi .slt t (broadcastInDim S128x1 ![] bcast_S_S128x1 (constantI S_ 32 0#32)))
      (addi t (broadcastInDim S128x1 ![] bcast_S_S128x1 (constantI S_ 32 100000#32))) t)
    shapeCasts_S128x1_S128x1x1

/-- Which rows' indices lie within the row. -/
def within (w : IVec S128x1x1 32) : IVec S128x1 1 :=
  Host.reduce IntOp.andi
    (andi (cmpi .sge w (broadcastInDim S128x1x1 ![] bcast_S_S128x1x1 (constantI S_ 32 0#32)))
      (cmpi .sle w (broadcastInDim S128x1x1 ![0, 1, 2] bcast_S1x1x1_S128x1x1_0_1_2
        (broadcastInDim S1x1x1 ![2] bcast_S1_S1x1x1_2 (constantI S1 32 99999#32)))))
    (constantI S_ 1 1#1) reducesTo_S128x1x1_S128x1_d2 h_S_

/-- The entry of each row that the column of indices names. -/
def pick (l : FVec F S128x100000 .f32) (t : IVec S128x1 32) : FVec F S128x1 .f32 :=
  select (within (wrapped t)) (Host.gather gather_S128x100000_S128x1x1_S128x1_n_1_0_0_1_2_11 l (wrapped t))
    (broadcastInDim S128x1 ![] bcast_S_S128x1 (constant S_ .f32 0x7FC00000#32))

/-- The sampled log-probabilities: each row's log-probability at its token. -/
def refSample (x : FVec F S128x100000 .f32) : FVec F S128x1 .f32 :=
  pick (refLogs x) (broadcastInDim S128x1 ![0] bcast_S128_S128x1_0 (refTokens x))

/-- The reference's operations, in order. -/
abbrev ops : List (HloOp τ sig (Elt F)) :=
  [ nullary main_cst (constant S_ .f32 0xFF800000#32),
    binary main_arg0 main_cst main_v0 (fun x v => Host.reduce FloatOps.maximumf x v reducesTo_S128x100000_S128_d1 h_S_),
    nullary main_cst_0 (constant S_ .f32 0xFF800000#32),
    unary main_cst_0 main_v1 (broadcastInDim S128 ![] bcast_S_S128),
    binary main_v1 main_v0 main_v2 maximumf,
    unary main_v2 main_v3 (broadcastInDim S128x1 ![0] bcast_S128_S128x1_0),
    unary main_v3 main_v4 (broadcastInDim S128x100000 ![0, 1] bcast_S128x1_S128x100000_0_1),
    binary main_arg0 main_v4 main_v5 subf,
    unary main_v5 main_v6 Host.exp,
    nullary main_cst_1 (constant S_ .f32 0x00000000#32),
    binary main_v6 main_cst_1 main_v7 (fun x v => Host.reduceAdd x v reducesTo_S128x100000_S128_d1 h_S_),
    unary main_v7 main_v8 (broadcastInDim S128x1 ![0] bcast_S128_S128x1_0),
    unary main_v8 main_v9 (broadcastInDim S128x100000 ![0, 1] bcast_S128x1_S128x100000_0_1),
    binary main_v6 main_v9 main_v10 Host.divf,
    nullary main_call0_cst (constant S_ .f32 0xFF800000#32),
    binary main_arg0 main_call0_cst main_call0_v0 (fun x v => Host.reduce FloatOps.maximumf x v reducesTo_S128x100000_S128_d1 h_S_),
    nullary main_call0_cst_0 (constant S_ .f32 0xFF800000#32),
    unary main_call0_cst_0 main_call0_v1 (broadcastInDim S128 ![] bcast_S_S128),
    binary main_call0_v1 main_call0_v0 main_call0_v2 maximumf,
    unary main_call0_v2 main_call0_v3 (broadcastInDim S128x1 ![0] bcast_S128_S128x1_0),
    unary main_call0_v3 main_call0_v4 (broadcastInDim S128x100000 ![0, 1] bcast_S128x1_S128x100000_0_1),
    binary main_arg0 main_call0_v4 main_call0_v5 subf,
    unary main_call0_v5 main_call0_v6 Host.exp,
    nullary main_call0_cst_1 (constant S_ .f32 0x00000000#32),
    binary main_call0_v6 main_call0_cst_1 main_call0_v7 (fun x v => Host.reduceAdd x v reducesTo_S128x100000_S128_d1 h_S_),
    unary main_call0_v7 main_call0_v8 (broadcastInDim S128x1 ![0] bcast_S128_S128x1_0),
    unary main_call0_v8 main_call0_v9 Host.log,
    unary main_call0_v9 main_call0_v10 (broadcastInDim S128x100000 ![0, 1] bcast_S128x1_S128x100000_0_1),
    binary main_call0_v5 main_call0_v10 main_v11 subf,
    nullary main_call1_v0 (iotaInDim S128x100000 32 1),
    nullary main_call1_cst (constant S_ .f32 0xFF800000#32),
    nullary main_call1_c (constantI S_ 32 0#32),
    quaternary main_arg0 main_call1_v0 main_call1_cst main_call1_c main_call1_v1_0 (fun x y u v j => (Host.argReduce reducer_argmax_f32_i32 x y u v reducesTo_S128x100000_S128_d1 h_S_ j).1),
    quaternary main_arg0 main_call1_v0 main_call1_cst main_call1_c main_v12 (fun x y u v j => (Host.argReduce reducer_argmax_f32_i32 x y u v reducesTo_S128x100000_S128_d1 h_S_ j).2),
    unary main_v12 main_v13 (broadcastInDim S128x1 ![0] bcast_S128_S128x1_0),
    nullary main_call2_c (constantI S_ 32 0#32),
    unary main_call2_c main_call2_v0 (broadcastInDim S128x1 ![] bcast_S_S128x1),
    binary main_v13 main_call2_v0 main_call2_v1 (cmpi .slt),
    nullary main_call2_c_0 (constantI S_ 32 100000#32),
    unary main_call2_c_0 main_call2_v2 (broadcastInDim S128x1 ![] bcast_S_S128x1),
    binary main_v13 main_call2_v2 main_call2_v3 addi,
    ternary main_call2_v1 main_call2_v3 main_v13 main_call2_v4 select,
    reshape main_call2_v4 main_call2_v5 (rfl : (.i32 : EltTy) = .i32) shapeCasts_S128x1_S128x1x1,
    nullary main_call2_c_1 (constantI S1 32 99999#32),
    nullary main_call2_c_2 (constantI S_ 32 0#32),
    unary main_call2_c_2 main_call2_v6 (broadcastInDim S128x1x1 ![] bcast_S_S128x1x1),
    binary main_call2_v5 main_call2_v6 main_call2_v7 (cmpi .sge),
    unary main_call2_c_1 main_call2_v8 (broadcastInDim S1x1x1 ![2] bcast_S1_S1x1x1_2),
    unary main_call2_v8 main_call2_v9 (broadcastInDim S128x1x1 ![0, 1, 2] bcast_S1x1x1_S128x1x1_0_1_2),
    binary main_call2_v5 main_call2_v9 main_call2_v10 (cmpi .sle),
    binary main_call2_v7 main_call2_v10 main_call2_v11 andi,
    nullary main_call2_c_3 (constantI S_ 1 1#1),
    binary main_call2_v11 main_call2_c_3 main_call2_v12 (fun x v => Host.reduce IntOp.andi x v reducesTo_S128x1x1_S128x1_d2 h_S_),
    binary main_v11 main_call2_v5 main_call2_v13 (fun x i => Host.gather gather_S128x100000_S128x1x1_S128x1_n_1_0_0_1_2_11 x i),
    nullary main_call2_cst (constant S_ .f32 0x7FC00000#32),
    unary main_call2_cst main_call2_v14 (broadcastInDim S128x1 ![] bcast_S_S128x1),
    ternary main_call2_v12 main_call2_v13 main_call2_v14 main_v14 select ]

/-- The reference's main is that straight line. -/
theorem main_seq (c : Dev nD) : main (F := F) c = seq ops := by
  sl_kernel_rfl

/-- Nothing is scoped. -/
theorem no_refs : (Finset.univ.filter fun b : Ref sig .tc => b.isScoped) = ∅ := by decide

/-- No semaphore is scoped. -/
theorem no_sems : (Finset.univ.filter fun s : SemLoc sig => s.isScoped .tc) = ∅ := by decide

/-- Every operation works on the device's own arrays. -/
theorem ops_within : (ops : List (HloOp τ sig (Elt F))).Forall fun op => op.bufs ⊆ tcRefs τ sig :=
  ⟨nullary_bufs_sub .., binary_bufs_sub .., nullary_bufs_sub .., unary_bufs_sub .., binary_bufs_sub ..,
    unary_bufs_sub .., unary_bufs_sub .., binary_bufs_sub .., unary_bufs_sub .., nullary_bufs_sub ..,
    binary_bufs_sub .., unary_bufs_sub .., unary_bufs_sub .., binary_bufs_sub .., nullary_bufs_sub ..,
    binary_bufs_sub .., nullary_bufs_sub .., unary_bufs_sub .., binary_bufs_sub .., unary_bufs_sub ..,
    unary_bufs_sub .., binary_bufs_sub .., unary_bufs_sub .., nullary_bufs_sub .., binary_bufs_sub ..,
    unary_bufs_sub .., unary_bufs_sub .., unary_bufs_sub .., binary_bufs_sub .., nullary_bufs_sub ..,
    nullary_bufs_sub .., nullary_bufs_sub .., quaternary_bufs_sub .., quaternary_bufs_sub .., unary_bufs_sub ..,
    nullary_bufs_sub .., unary_bufs_sub .., binary_bufs_sub .., nullary_bufs_sub .., unary_bufs_sub ..,
    binary_bufs_sub .., ternary_bufs_sub .., reshape_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., nullary_bufs_sub ..,
    unary_bufs_sub .., ternary_bufs_sub ..⟩

section Values

variable (V : Valuation τ sig (Elt F))

/-- The operations leave the probabilities in the first result. -/
theorem probs_after : after ops V (main_v10 : DevRef τ sig) = refProbs (V (main_arg0 : DevRef τ sig)) := by
  after_reads_simp
  rfl

/-- The operations leave the log-probabilities in the second result. -/
theorem logs_after : after ops V (main_v11 : DevRef τ sig) = refLogs (V (main_arg0 : DevRef τ sig)) := by
  after_reads_simp
  rfl

/-- The operations leave the tokens in the third result. -/
theorem tokens_after : after ops V (main_v12 : DevRef τ sig) = refTokens (V (main_arg0 : DevRef τ sig)) := by
  after_reads_simp
  rfl

/-- The operations leave the sampled log-probabilities in the fourth result. -/
theorem sample_after : after ops V (main_v14 : DevRef τ sig) = refSample (V (main_arg0 : DevRef τ sig)) := by
  after_reads_simp
  rfl

/-- The operations leave the logits as they were. -/
theorem logits_after : after ops V (main_arg0 : DevRef τ sig) = V (main_arg0 : DevRef τ sig) := by
  after_reads_simp

end Values

/-- The reference runs; its four results hold what the definitions above say, its argument what it held, and every
    semaphore is at zero. -/
theorem run (m : (ℓ : Loc nD τ sig) → Buf (Elt F) ℓ) (g : Dev nD → PrngReg) :
    θ_run defs (onTc (τ := τ) (main (F := F))) ⟨m, fun _ => 0, g⟩ fun r =>
      (∀ c : Dev nD, r.2.mem ((c.tc : Thread nD τ).loc main_v10) = refProbs (m ((c.tc : Thread nD τ).loc main_arg0))
        ∧ r.2.mem ((c.tc : Thread nD τ).loc main_v11) = refLogs (m ((c.tc : Thread nD τ).loc main_arg0))
        ∧ r.2.mem ((c.tc : Thread nD τ).loc main_v12) = refTokens (m ((c.tc : Thread nD τ).loc main_arg0))
        ∧ r.2.mem ((c.tc : Thread nD τ).loc main_v14) = refSample (m ((c.tc : Thread nD τ).loc main_arg0))
        ∧ r.2.mem ((c.tc : Thread nD τ).loc main_arg0) = m ((c.tc : Thread nD τ).loc main_arg0))
      ∧ r.2.sem = fun _ => 0 :=
  (θ_run defs _ _).mono
    (fun r h => ⟨fun c => ⟨(h c main_v10).trans (probs_after _), (h c main_v11).trans (logs_after _),
        (h c main_v12).trans (tokens_after _), (h c main_v14).trans (sample_after _), (h c main_arg0).trans (logits_after _)⟩,
      sem_eq_zero_of_no_sems rfl r.2⟩)
    (run_seq no_refs no_sems defs main (fun _ => ops) main_seq (fun _ => ops_within) m g)

end Cert.Proof.Ref

end
-- ==== Proof.RowMath.lean ====
module

public import Idealize.ShloMosaic.PureOps.Ideal.Laws
public import Idealize.ShloMosaic.Lib.SortNet.Extract
public import Mathlib.Data.Finset.Fold
public import Mathlib.Data.EReal.Operations

@[expose] public section

/-! One row of logits over the extended reals: its largest logit, its sum of exponentials, and the first place of its
largest logit, which is what both programs' searches for a token find. -/

noncomputable section

namespace Cert.Proof

open Idealize.ShloMosaic

/-- A row of logits. -/
abbrev Row := Fin 100000 → EReal

/-- The row's largest logit, as a fold of `max` from the least extended real. -/
def rowMax (f : Row) : EReal := Finset.univ.fold max ⊥ f

/-- The row's sum of exponentials, each logit less the largest. -/
def rowSum (f : Row) : EReal := ∑ k, Ideal.exp (f k - rowMax f)

/-- Every logit is at most the largest. -/
theorem le_rowMax (f : Row) (k : Fin 100000) : f k ≤ rowMax f :=
  Finset.le_sup (f := f) (Finset.mem_univ k)

/-- The largest is one of the logits. -/
theorem exists_rowMax (f : Row) : ∃ k, f k = rowMax f := by
  obtain ⟨k, -, h⟩ := Finset.exists_mem_eq_sup Finset.univ ⟨0, Finset.mem_univ _⟩ f
  exact ⟨k, h.symm⟩

/-! ## The sum of exponentials -/

/-- An exponential is not negative. -/
theorem exp_nonneg (x : EReal) : 0 ≤ Ideal.exp x := by
  induction x with
  | bot => exact le_rfl
  | top => exact le_top
  | coe r => exact EReal.coe_nonneg.2 (Real.exp_pos r).le

/-- Where the largest logit is a real number the sum of exponentials is not zero: the largest contributes one. -/
theorem rowSum_ne_zero (f : Row) (ht : rowMax f ≠ ⊤) (hb : rowMax f ≠ ⊥) : rowSum f ≠ 0 := by
  obtain ⟨k, hk⟩ := exists_rowMax f
  have h1 : Ideal.exp (f k - rowMax f) = 1 := by
    rw [hk, EReal.sub_self ht hb]
    show Ideal.exp ((0 : ℝ) : EReal) = 1
    rw [Ideal.exp_coe, Real.exp_zero, EReal.coe_one]
  have h2 : Ideal.exp (f k - rowMax f) ≤ rowSum f :=
    Finset.single_le_sum (f := fun k => Ideal.exp (f k - rowMax f)) (fun i _ => exp_nonneg _) (Finset.mem_univ k)
  rw [h1] at h2
  exact (lt_of_lt_of_le zero_lt_one h2).ne'

/-- A product with a reciprocal is the quotient, the divisor not being zero. -/
theorem mul_recip (e s : EReal) (h : s ≠ 0) : e * Ideal.div 1 s = Ideal.div e s := by
  rw [Ideal.div, Ideal.div, if_neg h, if_neg h, one_mul]

/-! ## The first place of the largest logit -/

/-- `n` is the first place at which the row takes its largest logit. -/
def IsFirst (f : Row) (n : Fin 100000) : Prop := f n = rowMax f ∧ ∀ k, f k = rowMax f → n ≤ k

/-- Every row has such a place. -/
theorem exists_first (f : Row) : ∃ n, IsFirst f n := by
  obtain ⟨k, hk⟩ := exists_rowMax f
  obtain ⟨n, hn, hmin⟩ := Finset.exists_min_image (Finset.univ.filter fun k => f k = rowMax f) id
    ⟨k, Finset.mem_filter.2 ⟨Finset.mem_univ _, hk⟩⟩
  exact ⟨n, (Finset.mem_filter.1 hn).2, fun k hk => hmin k (Finset.mem_filter.2 ⟨Finset.mem_univ _, hk⟩)⟩

/-- A place as a 32-bit word reads back as the place, signed. -/
theorem toInt_place {n : ℕ} (h : n ≤ 100000) : (BitVec.ofNat 32 n).toInt = n := by
  rw [BitVec.toInt_eq_toNat_cond, BitVec.toNat_ofNat]
  omega

/-- A fold of the signed minimum, in integers. -/
theorem fold_minsi_toInt {ι : Type} [DecidableEq ι] (s : Finset ι) (w : BitVec 32) (g : ι → BitVec 32) :
    (s.fold IntOp.minsi w g).toInt = s.fold min w.toInt fun i => (g i).toInt := by
  induction s using Finset.induction_on with
  | empty => rfl
  | insert a s ha ih => rw [Finset.fold_insert ha, Finset.fold_insert ha, SortNet.toInt_minsi, ih]

/-- The least place that holds the largest logit, every other place counting as 100000, is the first such place. -/
theorem fold_places (f : Row) (n : Fin 100000) (hn : IsFirst f n) :
    Finset.univ.fold IntOp.minsi 2147483647#32
      (fun k : Fin 100000 => if f k = rowMax f then BitVec.ofNat 32 k.val else 100000#32) = BitVec.ofNat 32 n.val := by
  apply BitVec.eq_of_toInt_eq
  rw [fold_minsi_toInt, toInt_place n.isLt.le]
  have hw : ∀ k : Fin 100000, (n.val : ℤ) ≤ (if f k = rowMax f then BitVec.ofNat 32 k.val else 100000#32).toInt := by
    intro k
    split
    · rename_i h
      rw [toInt_place k.isLt.le]
      exact_mod_cast hn.2 k h
    · have := n.isLt
      rw [show (100000#32 : BitVec 32).toInt = 100000 from by decide]
      omega
  apply le_antisymm
  · refine Finset.fold_min_le (c := (n.val : ℤ)) |>.2 (.inr ⟨n, Finset.mem_univ _, ?_⟩)
    rw [if_pos hn.1, toInt_place n.isLt.le]
  · refine Finset.le_fold_min (c := (n.val : ℤ)) |>.2 ⟨?_, fun k _ => hw k⟩
    have := n.isLt
    rw [show (2147483647#32 : BitVec 32).toInt = 2147483647 from by decide]
    omega

/-! ## A search that keeps the better of two pairs -/

/-- Pair `p` is no better than pair `q`: `q`'s logit is larger, or it is as large and `q`'s place is not later. -/
def NoBetter (p q : EReal × BitVec 32) : Prop := p.1 < q.1 ∨ (p.1 = q.1 ∧ q.2.toInt ≤ p.2.toInt)

/-- A pair is no better than itself. -/
theorem NoBetter.refl (p : EReal × BitVec 32) : NoBetter p p := .inr ⟨rfl, le_rfl⟩

/-- Being no better passes on from pair to pair. -/
theorem NoBetter.trans {p q r : EReal × BitVec 32} (h : NoBetter p q) (h' : NoBetter q r) : NoBetter p r := by
  rcases h with h | ⟨h, i⟩ <;> rcases h' with h' | ⟨h', i'⟩
  · exact .inl (h.trans h')
  · exact .inl (h' ▸ h)
  · exact .inl (h ▸ h')
  · exact .inr ⟨h.trans h', i'.trans i⟩

/-- Folding a choice of the better pair over a list ends at one of the pairs met, and none met is better. -/
theorem foldl_better (op : EReal × BitVec 32 → EReal × BitVec 32 → EReal × BitVec 32)
    (hop : ∀ a b, (op a b = a ∨ op a b = b) ∧ NoBetter a (op a b) ∧ NoBetter b (op a b))
    (l : List (EReal × BitVec 32)) (z : EReal × BitVec 32) :
    (l.foldl op z = z ∨ l.foldl op z ∈ l) ∧ NoBetter z (l.foldl op z) ∧ ∀ p ∈ l, NoBetter p (l.foldl op z) := by
  induction l generalizing z with
  | nil => exact ⟨.inl rfl, .refl z, fun _ h => absurd h List.not_mem_nil⟩
  | cons a l ih =>
    rw [List.foldl_cons]
    obtain ⟨hm, hz, hl⟩ := ih (op z a)
    obtain ⟨hc, h1, h2⟩ := hop z a
    refine ⟨?_, h1.trans hz, fun p hp => ?_⟩
    · rcases hm with hm | hm
      · rcases hc with hc | hc
        · exact .inl (hm.trans hc)
        · exact .inr (by rw [hm, hc]; exact List.mem_cons_self)
      · exact .inr (List.mem_cons_of_mem _ hm)
    · rcases List.mem_cons.1 hp with rfl | hp
      · exact h2.trans hz
      · exact hl p hp

/-- A search over a row's pairs of logit and place, started at the least logit and place zero, finds the first place of the
    largest logit. -/
theorem foldl_first (op : EReal × BitVec 32 → EReal × BitVec 32 → EReal × BitVec 32)
    (hop : ∀ a b, (op a b = a ∨ op a b = b) ∧ NoBetter a (op a b) ∧ NoBetter b (op a b))
    (f : Row) (l : List (EReal × BitVec 32)) (hl : ∀ p, p ∈ l ↔ ∃ k : Fin 100000, p = (f k, BitVec.ofNat 32 k.val))
    (n : Fin 100000) (hn : IsFirst f n) : (l.foldl op (⊥, 0#32)).2 = BitVec.ofNat 32 n.val := by
  obtain ⟨hm, hz, hb⟩ := foldl_better op hop l (⊥, 0#32)
  generalize l.foldl op (⊥, 0#32) = q at hm hz hb
  have hfirst := hb _ ((hl _).2 ⟨n, rfl⟩)
  have hle : q.1 ≤ rowMax f := by
    rcases hm with rfl | hm
    · exact bot_le
    · obtain ⟨k, rfl⟩ := (hl _).1 hm
      exact le_rowMax f k
  have hq : q.1 = rowMax f ∧ q.2.toInt ≤ n.val := by
    rcases hfirst with h | ⟨h, i⟩
    · exact absurd (hn.1 ▸ h) (not_lt.2 hle)
    · exact ⟨h.symm.trans hn.1, by rwa [toInt_place n.isLt.le] at i⟩
  apply BitVec.eq_of_toInt_eq
  rw [toInt_place n.isLt.le]
  refine le_antisymm hq.2 ?_
  rcases hm with rfl | hm
  · have h0 : f 0 = rowMax f := le_antisymm (le_rowMax f 0) (hq.1 ▸ bot_le)
    have := hn.2 0 h0
    rw [Fin.le_iff_val_le_val] at this
    show (n.val : ℤ) ≤ (0#32 : BitVec 32).toInt
    rw [show (0#32 : BitVec 32).toInt = 0 from by decide]
    exact_mod_cast this
  · obtain ⟨k, rfl⟩ := (hl _).1 hm
    rw [toInt_place k.isLt.le]
    exact_mod_cast hn.2 k hq.1

end Cert.Proof

end
-- ==== Proof.BlockIdeal.lean ====
module

public import proofs.«01_k».proof.Proof.Block
public import proofs.«01_k».proof.Proof.RowMath
public import Idealize.ShloMosaic.Lib.Pointwise

@[expose] public section

/-! What one block yields over the extended reals, read at a row and a column. -/

noncomputable section

namespace Cert.Proof

open Cert.KernelIdeal Cert.KernelIdeal.Gen
open Idealize.ShloMosaic

/-- A row of an array of logits. -/
def rowOf {n : ℕ} (x : (⟨2, ![n, 100000]⟩ : Shape).Idx → EReal) (r : Fin n) : Row := fun k => x (ix2 r k)

/-- The bit pattern of minus infinity names the least extended real. -/
theorem minus_inf : Ideal.ofBits .f32 0xFF800000#32 = ⊥ := by simp [Ideal.ofBits, Ideal.ieee]

variable (b : FVec Ideal S16x100000 .f32) (r : Fin 16) (k : Fin 100000)

/-- The block's row maxima. -/
theorem blkMax_at (z : Fin 1) : blkMax b (ix2 r z) = rowMax (rowOf b r) := by
  unfold blkMax k0_pay2 k0_pay1
  rw [shapeCast_slab]
  pointwise
  rw [minus_inf]
  rfl

/-- The block less its row maxima. -/
theorem blkShift_at : blkShift b (ix2 r k) = rowOf b r k - rowMax (rowOf b r) := by
  rw [show blkShift b = subf (k0_pay1 (slab b)) (broadcastTo S16x100000 (blkMax b) broadcasts_S16x1_S16x100000) from rfl,
    show k0_pay1 (slab b) = b from shapeCast_slab b _]
  pointwise
  rw [blkMax_at]
  rfl

/-- The block's row sums of exponentials. -/
theorem blkSum_at (z : Fin 1) : blkSum b (ix2 r z) = rowSum (rowOf b r) := by
  rw [show blkSum b = shapeCast S16x1 (multiReduction .add [1] S16 (exp (blkShift b)) 0x00000000#32 reduces_S16x100000_S16
    (.inl rfl) rfl) shapeCasts_S16_S16x1 from rfl]
  pointwise
  simp only [blkShift_at]
  rfl

/-- The block's probabilities. -/
theorem blkProbs_at : blkProbs b (ix2 r k)
    = Ideal.exp (rowOf b r k - rowMax (rowOf b r)) * Ideal.div 1 (rowSum (rowOf b r)) := by
  rw [show blkProbs b = mulf (exp (blkShift b)) (broadcastTo S16x100000
    (divf (broadcast S16x1 (Scalar.ofBits .f32 0x3F800000#32)) (blkSum b)) broadcasts_S16x1_S16x100000) from rfl]
  pointwise
  rw [blkShift_at, blkSum_at]

/-- The block's log-probabilities. -/
theorem blkLogs_at : blkLogs b (ix2 r k)
    = rowOf b r k - rowMax (rowOf b r) - Ideal.log (rowSum (rowOf b r)) := by
  rw [show blkLogs b = subf (blkShift b) (broadcastTo S16x100000 (log (blkSum b)) broadcasts_S16x1_S16x100000) from rfl]
  pointwise
  rw [blkShift_at, blkSum_at]

/-- The block's sampled log-probabilities. -/
theorem blkSample_at (z : Fin 1) : blkSample b (ix2 r z) = 0 - Ideal.log (rowSum (rowOf b r)) := by
  rw [show blkSample b = subf (broadcast S16x1 (Scalar.ofBits .f32 0x00000000#32)) (log (blkSum b)) from rfl]
  pointwise
  rw [blkSum_at]

/-- The block's tokens: in each row the first place of its largest logit. -/
theorem blkTokens_at (z : Fin 1) (n : Fin 100000) (hn : IsFirst (rowOf b r) n) :
    blkTokens b (ix2 r z) = BitVec.ofNat 32 n.val := by
  rw [show blkTokens b = k0_pay10 b (blkMax b) from congrArg (fun v => k0_pay10 v (blkMax b)) (shapeCast_slab b _)]
  pointwise [k0_pay10]
  rw [blkMax_at]
  exact fold_places (rowOf b r) n hn

end Cert.Proof

end
-- ==== Proof.RefIdeal.lean ====
module
public import proofs.«01_k».proof.Proof.RefRun
public import proofs.«01_k».proof.Proof.BlockIdeal
@[expose] public section
/-! What the reference's definitions give over the extended reals, read at a row and a column. -/

noncomputable section
namespace Cert.Proof.Ref
open Cert.ReferenceIdeal Cert.ReferenceIdeal.Gen
open Idealize.ShloMosaic

/-- Summing out the columns, as the fold over a row's places. -/
theorem cols : S128x100000.Reduces [1] S128 := by decide

/-- The place in the array of a row's column. -/
theorem lift_cols (r : Fin 128) (k : Fin 100000) : cols.lift (ix1 r) k = ix2 r k := by
  funext a
  match a with
  | ⟨0, _⟩ => rfl
  | ⟨1, _⟩ => rfl

/-- The reduction by the larger of two numbers is the fold of the maximum over the `n` places of the dropped axis. -/
theorem reduce_max {s t u : Shape} {a : Fin s.rank} {n : Nat} (x : FVec Ideal s .f32) (init : FVec Ideal u .f32)
    (h' : s.ReducesTo [a] t) (h : s.Reduces [a] t) (hu : 0 < u.numel) (j : t.Idx) (hn : s.size a = n)
    (f : Fin n → EReal) (hf : ∀ k, x (h.lift j k) = f (k.cast hn)) :
    Host.reduce FloatOps.maximumf x init h' hu j = Finset.univ.fold max (init (Shape.Idx.first hu)) f := by
  subst hn
  refine (Host.reduce_eq_fold_single (max : EReal → EReal → EReal) x init h' h hu j).trans ?_
  exact congrArg (fun f => Finset.univ.fold max _ f) (funext hf)

variable (x : FVec Ideal S128x100000 .f32) (r : Fin 128) (k : Fin 100000)

/-- Each row's largest logit, by the reduction alone. -/
theorem reduceMax_at : Host.reduce FloatOps.maximumf x (constant S_ .f32 0xFF800000#32)
    reducesTo_S128x100000_S128_d1 h_S_ (ix1 r) = rowMax (rowOf x r) := by
  rw [reduce_max x _ _ cols _ _ rfl (rowOf x r) (fun k => congrArg x (lift_cols r k))]
  exact congrArg (fun b => Finset.univ.fold max b (rowOf x r)) minus_inf

/-- The row maxima. -/
theorem refMax_at : refMax x (ix1 r) = rowMax (rowOf x r) := by
  unfold refMax
  rw [maximumf_apply, reduceMax_at]
  show max (Ideal.ofBits .f32 0xFF800000#32) _ = _
  rw [minus_inf]
  exact bot_sup_eq _

/-- The logits less their row's largest. -/
theorem refShift_at : refShift x (ix2 r k) = rowOf x r k - rowMax (rowOf x r) := by
  unfold refShift along
  pointwise
  rw [refMax_at]
  rfl

/-- The row sums of exponentials. -/
theorem refSum_at (z : Fin 1) : refSum x (ix2 r z) = rowSum (rowOf x r) := by
  unfold refSum
  pointwise
  simp only [refShift_at]
  rfl

/-- The probabilities. -/
theorem refProbs_at : refProbs x (ix2 r k)
    = Ideal.div (Ideal.exp (rowOf x r k - rowMax (rowOf x r))) (rowSum (rowOf x r)) := by
  unfold refProbs along
  pointwise
  rw [refShift_at, refSum_at]

/-- The log-probabilities. -/
theorem refLogs_at : refLogs x (ix2 r k)
    = rowOf x r k - rowMax (rowOf x r) - Ideal.log (rowSum (rowOf x r)) := by
  unfold refLogs along
  pointwise
  rw [refShift_at, refSum_at]

/-- The pairs a two-array reduction searches at one place of its result are those at the places that reduce to it. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, h, rfl⟩
    exact ⟨_, h, rfl⟩
  · rintro ⟨i, h, rfl⟩
    exact ⟨s.rowMajor i, by rwa [Equiv.symm_apply_apply], by rw [Equiv.symm_apply_apply]⟩

/-- A two-array reduction's second half is that of a left fold over the pairs at the places that reduce to an index. -/
theorem places_at {s t u : Shape} {axes : List (Fin s.rank)}
    (op : EReal × BitVec 32 → EReal × BitVec 32 → EReal × BitVec 32) (x : FVec Ideal s .f32) (y : IVec s 32)
    (ix : FVec Ideal u .f32) (iy : IVec u 32) (h : s.ReducesTo axes t) (hu : 0 < u.numel) (j : t.Idx) :
    ∃ l : List (EReal × BitVec 32), (∀ p, p ∈ l ↔ ∃ i, h.drop i = j ∧ p = (x i, y i)) ∧
      places (F := Ideal) op x y ix iy h hu j
        = (l.foldl op (ix (Shape.Idx.first hu), iy (Shape.Idx.first hu))).2 := by
  refine ⟨Host.argReduceFiber x y h j, mem_fiber x y h j, ?_⟩
  unfold places
  rw [Ideal.argReduce_eq_reduce2, Host.reduce2_eq_foldl_fiber]

/-- The search for a token keeps the better of two pairs. -/
theorem reducer_better (a b : EReal × BitVec 32) :
    (reducer_argmax_f32_i32 (F := Ideal) a b = a ∨ reducer_argmax_f32_i32 (F := Ideal) a b = b)
      ∧ NoBetter a (reducer_argmax_f32_i32 (F := Ideal) a b) ∧ NoBetter b (reducer_argmax_f32_i32 (F := Ideal) a b) := by
  obtain ⟨v, i⟩ := a
  obtain ⟨w, j⟩ := b
  have e : reducer_argmax_f32_i32 (F := Ideal) (v, i) (w, j)
      = if w < v ∨ (v = w ∧ i.toInt < j.toInt) then (v, i) else (w, j) := by
    unfold reducer_argmax_f32_i32
    simp only [Ideal.cmpf_def, Ideal.cmp, IntOp.cmpi, IntOp.ori, IntOp.andi, Scalar.select]
    rcases lt_trichotomy w v with h | h | h
    · simp [h, h.ne, h.ne']
    · subst h
      by_cases h' : i.toInt < j.toInt <;> simp [BitVec.slt_eq_decide, h', not_lt.1]
    · simp [h.not_gt, h.ne, h.ne']
  rw [e]
  split
  · rename_i h
    refine ⟨.inl rfl, .refl _, ?_⟩
    rcases h with h | ⟨h, h'⟩
    · exact .inl h
    · exact .inr ⟨h.symm, h'.le⟩
  · rename_i h
    push Not at h
    refine ⟨.inr rfl, ?_, .refl _⟩
    rcases h.1.lt_or_eq with h' | h'
    · exact .inl h'
    · exact .inr ⟨h', h.2 h'⟩
/-- The tokens: in each row the first place of its largest logit. -/
theorem refTokens_at (n : Fin 100000) (hn : IsFirst (rowOf x r) n) : refTokens x (ix1 r) = BitVec.ofNat 32 n.val := by
  obtain ⟨l, hl, e⟩ := places_at (reducer_argmax_f32_i32 (F := Ideal)) x (iotaInDim S128x100000 32 1)
    (constant S_ .f32 0xFF800000#32) (constantI S_ 32 0#32) reducesTo_S128x100000_S128_d1 h_S_ (ix1 r)
  refine Eq.trans e ?_
  rw [show (constant (F := Ideal) S_ .f32 0xFF800000#32) (Shape.Idx.first h_S_) = (⊥ : EReal) from minus_inf]
  refine foldl_first _ reducer_better (rowOf x r) l (fun p => (hl p).trans ?_) n hn
  rw [Shape.ReducesTo.drop_eq_drop _ cols]
  constructor
  · rintro ⟨i, hi, rfl⟩
    have e := cols.lift_drop i
    rw [hi] at e
    have e' : i = ix2 r (i 1) := e.symm.trans (lift_cols r (i 1))
    refine ⟨i 1, ?_⟩
    rw [e']
    rfl
  · rintro ⟨k, rfl⟩
    exact ⟨ix2 r k, (congrArg cols.drop (lift_cols r k)).symm.trans (cols.drop_lift _ _), rfl⟩

end Cert.Proof.Ref
-- ==== Proof.RowFinite.lean ====
module

public import proofs.«01_k».proof.Pre_row_max_finite
public import proofs.«01_k».proof.Proof.AllOnes
public import proofs.«01_k».proof.Proof.RefIdeal

@[expose] public section

/-! The precondition read at a row: every row's largest logit is a real number. -/

noncomputable section

namespace Cert.Proof

open Cert.Pre_row_max_finite
open Idealize.ShloMosaic

/-- The precondition's side conditions on its shapes. -/
instance pre_facts : Cert.Pre_row_max_finite.Facts where
  reducesTo_S128x100000_S128_d1 := by decide
  h_S_ := by decide
  bcast_S_S128 := by decide
  reducesTo_S128_S_d0 := by decide

/-- A number whose absolute value lies below infinity is neither infinity. -/
theorem finite_of_abs (a : EReal) (h : Ideal.cmp .olt (max a (-a)) ⊤ = 1#1) : a ≠ ⊤ ∧ a ≠ ⊥ := by
  constructor <;> rintro rfl <;> simp [Ideal.cmp] at h

/-- The infinity the precondition compares with. -/
theorem plus_inf : Ideal.ofBits .f32 0x7F800000#32 = (⊤ : EReal) := by simp [Ideal.ofBits, Ideal.ieee]

/-- An absolute value compared with a bound, at a place. -/
theorem abs_below {s : Shape} (v c : FVec Ideal s .f32) (i : s.Idx) :
    cmpf .olt (Host.absf v) c i = Ideal.cmp .olt (max (v i) (-(v i))) (c i) := rfl

/-- Where the precondition holds no row's largest logit is infinite. -/
theorem row_finite (x : FVec Ideal S128x100000 .f32) (h : fn (F := Ideal) x = fun _ => 1#1) (r : Fin 128) :
    rowMax (rowOf x r) ≠ ⊤ ∧ rowMax (rowOf x r) ≠ ⊥ := by
  have h0 := congrFun h (Shape.Idx.first Facts.h_S_)
  have h1 := (reduce_andi _ _ Facts.reducesTo_S128_S_d0 Facts.h_S_ rfl _).1 h0 (ix1 r) (funext fun a => a.elim0)
  have e : Host.reduce FloatOps.maximumf x (constant S_ .f32 0xFF800000#32) Facts.reducesTo_S128x100000_S128_d1
      Facts.h_S_ (ix1 r) = rowMax (rowOf x r) := Ref.reduceMax_at x r
  have eb : broadcastInDim S128 ![] Facts.bcast_S_S128 (constant (F := Ideal) S_ .f32 0x7F800000#32) (ix1 r) = (⊤ : EReal) :=
    plus_inf
  rw [abs_below, eb] at h1
  beta_reduce at h1
  rw [e] at h1
  exact finite_of_abs _ h1

end Cert.Proof
-- ==== Proof.RefSample.lean ====
module

public import proofs.«01_k».proof.Proof.AllOnes
public import proofs.«01_k».proof.Proof.RefIdeal

@[expose] public section

/-! The reference's sampled log-probabilities, read at a row: the log-probability at the row's token. -/

noncomputable section

namespace Cert.Proof.Ref

open Cert.ReferenceIdeal Cert.ReferenceIdeal.Gen
open Idealize.ShloMosaic

/-- A place in a row, as a word, is not negative. -/
theorem not_negative (n : Fin 100000) : IntOp.cmpi .slt (BitVec.ofNat 32 n.val) 0#32 = 0#1 := by
  have e := toInt_place (n := n.val) n.isLt.le
  have e0 : (0#32).toInt = 0 := by decide
  simp only [IntOp.cmpi, BitVec.slt_eq_decide, e, e0]
  rw [decide_eq_false (by omega)]
  rfl

/-- A place in a row, as a word, lies within the row. -/
theorem in_row (n : Fin 100000) : IntOp.andi (IntOp.cmpi .sge (BitVec.ofNat 32 n.val) 0#32)
    (IntOp.cmpi .sle (BitVec.ofNat 32 n.val) 99999#32) = 1#1 := by
  have e := toInt_place (n := n.val) n.isLt.le
  have e0 : (0#32).toInt = 0 := by decide
  have e1 : (99999#32).toInt = 99999 := by decide
  have h := n.isLt
  rw [andi_one]
  constructor
  · simp [IntOp.cmpi, BitVec.sle_eq_decide, e, e0]
  · simp only [IntOp.cmpi, BitVec.sle_eq_decide, e, e1]
    rw [decide_eq_true (by omega)]
    rfl

/-- The reference's gather: along the rows, one entry of each. -/
abbrev take : GatherDims S128x100000 S128x1x1 S128x1 := gather_S128x100000_S128x1x1_S128x1_n_1_0_0_1_2_11

/-- A place in a column of single entries is its row's. -/
theorem at_row (r : Fin 128) (i : S128x1x1.Idx) (hi : (i 0).val = r.val) : i = ix3 r 0 0 := by
  funext a
  match a with
  | ⟨0, _⟩ => exact Fin.ext hi
  | ⟨1, _⟩ => exact Subsingleton.elim (α := Fin 1) _ _
  | ⟨2, _⟩ => exact Subsingleton.elim (α := Fin 1) _ _

variable (t : IVec S128x1 32) (r : Fin 128) (n : Fin 100000)

/-- An index that is not negative is left as it is. -/
theorem wrapped_at (ht : t (ix2 r 0) = BitVec.ofNat 32 n.val) :
    wrapped t (ix3 r 0 0) = BitVec.ofNat 32 n.val := by
  unfold wrapped
  pointwise
  rw [ht, not_negative]
  rfl

/-- An index that names a place of its row passes the test. -/
theorem within_at (w : IVec S128x1x1 32) (hw : w (ix3 r 0 0) = BitVec.ofNat 32 n.val) (z : Fin 1) :
    within w (ix2 r z) = 1#1 := by
  unfold within
  refine (reduce_andi _ _ _ _ rfl _).2 fun i hi => ?_
  have e := at_row r i (congrArg Fin.val (congrFun hi 0))
  rw [e]
  pointwise
  rw [hw]
  exact in_row n

/-- The gather reads the entry of the row that the index names. -/
theorem gather_at (l : FVec Ideal S128x100000 .f32) (w : IVec S128x1x1 32)
    (hw : w (ix3 r 0 0) = BitVec.ofNat 32 n.val) (z : Fin 1) :
    Host.gather take l w (ix2 r z) = l (ix2 r n) := by
  refine congrArg l ?_
  have e := toInt_place (n := n.val) n.isLt.le
  funext a
  match a with
  | ⟨0, _⟩ =>
    refine Fin.ext ?_
    show take.start (ix2 r z) w 0
      + take.batchCoord (ix2 r z) 0
      + take.offCoord (ix2 r z) 0 = r.val
    rw [GatherDims.start_batching _ _ _ _ (List.mem_singleton.2 rfl),
      GatherDims.offCoord_eq_zero _ _ _ (fun h => ((GatherDims.mem_sKept _ _).1 h).2 (List.mem_singleton.2 rfl)),
      GatherDims.batchCoord, dif_pos (show 0 ∈ take.operandBatchingDims from List.mem_singleton.2 rfl), Nat.zero_add, Nat.add_zero]
    rfl
  | ⟨1, _⟩ =>
    refine Fin.ext ?_
    show take.start (ix2 r z) w 1
      + take.batchCoord (ix2 r z) 1
      + take.offCoord (ix2 r z) 1 = n.val
    rw [GatherDims.batchCoord_eq_zero _ _ _ (show 1 ∉ take.operandBatchingDims from fun h => absurd (List.mem_singleton.1 h) (by decide)),
      GatherDims.offCoord_eq_zero _ _ _ (fun h => ((GatherDims.mem_sKept _ _).1 h).1 (List.mem_singleton.2 rfl)),
      GatherDims.start, dif_pos (show 1 ∈ take.startIndexMap from List.mem_singleton.2 rfl)]
    have ew : ∀ i : S128x1x1.Idx, (i 0).val = r.val → w i = BitVec.ofNat 32 n.val := fun i hi => by
      rw [at_row r i hi, hw]
    rw [ew _ rfl, e]
    show min (n.val : Int).toNat 99999 = n.val
    have := n.isLt
    omega

/-- A selection at a place where its bit is one. -/
theorem select_one {α : Type} {s : Shape} (c : IVec s 1) (a b : s.Idx → α) (i : s.Idx) (h : c i = 1#1) :
    select c a b i = a i := by
  show Scalar.select (c i) (a i) (b i) = a i
  rw [h]
  rfl

/-- The pick at a row is the entry that the row's index names. -/
theorem pick_at (l : FVec Ideal S128x100000 .f32) (ht : t (ix2 r 0) = BitVec.ofNat 32 n.val) (z : Fin 1) :
    pick l t (ix2 r z) = l (ix2 r n) := by
  have hw := wrapped_at t r n ht
  unfold pick
  rw [select_one _ _ _ _ (within_at r n _ hw z)]
  exact gather_at r n l _ hw z

/-- A word per row, as a column. -/
theorem column_at (v : IVec S128 32) : broadcastInDim S128x1 ![0] bcast_S128_S128x1_0 v (ix2 r 0) = v (ix1 r) := by
  pointwise

/-- The sampled log-probabilities: in each row the log-probability at the first place of the largest logit. -/
theorem refSample_at (x : FVec Ideal S128x100000 .f32) (hn : IsFirst (rowOf x r) n) (z : Fin 1) :
    refSample x (ix2 r z) = refLogs x (ix2 r n) := by
  have e := refTokens_at x r n hn
  unfold refSample
  generalize refTokens x = v at e ⊢
  exact pick_at _ r n _ ((column_at r v).trans e) z

end Cert.Proof.Ref
-- ==== Proof.Equation.lean ====
module

public import proofs.«01_k».proof.Proof.BlockIdeal
public import proofs.«01_k».proof.Proof.RefSample

@[expose] public section

/-! The four results of the kernel are the reference's, over the extended reals. The log-probabilities and the tokens agree
at all logits, the probabilities and the sampled log-probabilities where every row's largest logit is a real number. -/

noncomputable section

namespace Cert.Proof

open Cert.KernelIdeal Cert.KernelIdeal.Gen
open Idealize.ShloMosaic

/-- The block that row `r` lies in. -/
def blockOf (r : Fin 128) : Fin 8 := ⟨r.val / 16, blk_lt r.isLt⟩

/-- The place of row `r` in its block. -/
def placeOf (r : Fin 128) : Fin 16 := ⟨r.val % 16, Nat.mod_lt _ (by omega)⟩

/-- A row of the logits is a row of its block. -/
theorem rowOf_block (x : S128x100000.Idx → EReal) (r : Fin 128) : rowOf (rows (blockOf r) x) (placeOf r) = rowOf x r := by
  have h := Nat.div_add_mod r.val 16
  funext k
  refine congrArg x (funext fun a => Fin.ext ?_)
  rw [Rect.emb_apply]
  match a with
  | ⟨0, _⟩ => show 16 * (r.val / 16) + 1 * (r.val % 16) = r.val; omega
  | ⟨1, _⟩ => show 0 + 1 * k.val = k.val; omega

/-- An assembled array at a row and a column is what the row's block yields there. -/
theorem assemble_row {β : Type} {n : ℕ} (g : (S16x100000.Idx → EReal) → (⟨2, ![16, n]⟩ : Shape).Idx → β)
    (x : S128x100000.Idx → EReal) (r : Fin 128) (k : Fin n) :
    assemble g x (ix2 r k) = g (rows (blockOf r) x) (ix2 (placeOf r) k) :=
  assemble_at g x _ _ _ (Nat.div_add_mod r.val 16).symm rfl

/-- Two arrays of 128 rows are equal where they agree at every row and column. -/
theorem ext_rows {β : Type} {n : ℕ} (f g : (⟨2, ![128, n]⟩ : Shape).Idx → β) (h : ∀ r k, f (ix2 r k) = g (ix2 r k)) : f = g := by
  funext i
  have e : i = ix2 (i 0) (i 1) := by
    funext a
    match a with
    | ⟨0, _⟩ => rfl
    | ⟨1, _⟩ => rfl
  rw [e]
  exact h _ _

variable (x : FVec Ideal S128x100000 .f32)

/-- The probabilities agree: a product with the sum's reciprocal is the quotient, the sum not being zero. -/
theorem probs_eq (hx : ∀ r, rowMax (rowOf x r) ≠ ⊤ ∧ rowMax (rowOf x r) ≠ ⊥) :
    assemble (n := 100000) blkProbs x = Ref.refProbs x := by
  refine ext_rows _ _ fun r k => ?_
  rw [assemble_row, blkProbs_at, rowOf_block, Ref.refProbs_at]
  exact mul_recip _ _ (rowSum_ne_zero _ (hx r).1 (hx r).2)

/-- The log-probabilities agree. -/
theorem logs_eq : assemble (n := 100000) blkLogs x = Ref.refLogs x := by
  refine ext_rows _ _ fun r k => ?_
  rw [assemble_row, blkLogs_at, rowOf_block, Ref.refLogs_at]

/-- The tokens agree: each is the first place of its row's largest logit. -/
theorem tokens_eq : shapeCast S128 (assemble (n := 1) blkTokens x) shapeCasts_S128x1_S128 = Ref.refTokens x := by
  funext i
  obtain ⟨r, rfl⟩ : ∃ r : Fin 128, i = ix1 r := ⟨i 0, funext fun a => by obtain rfl : a = 0 := Subsingleton.elim _ _; rfl⟩
  obtain ⟨n, hn⟩ := exists_first (rowOf x r)
  rw [Ref.refTokens_at x r n hn]
  pointwise
  rw [assemble_row]
  exact blkTokens_at _ _ _ n (by rw [rowOf_block]; exact hn)

/-- The sampled log-probabilities agree: at its largest logit, a real number, a row's shifted logit is zero. -/
theorem sample_eq (hx : ∀ r, rowMax (rowOf x r) ≠ ⊤ ∧ rowMax (rowOf x r) ≠ ⊥) :
    assemble (n := 1) blkSample x = Ref.refSample x := by
  refine ext_rows _ _ fun r z => ?_
  obtain ⟨n, hn⟩ := exists_first (rowOf x r)
  rw [assemble_row, blkSample_at, rowOf_block, Ref.refSample_at r n x hn, Ref.refLogs_at, hn.1,
    EReal.sub_self (hx r).1 (hx r).2]

end Cert.Proof

end
-- ==== Proof.lean ====
module

public import proofs.«01_k».proof.Defs
public import proofs.«01_k».proof.Proof.KernelFrame
public import proofs.«01_k».proof.Proof.RowFinite
public import proofs.«01_k».proof.Proof.Equation

@[expose] public section

noncomputable section

namespace Cert.Proof

open Idealize.ShloMosaic Idealize.SL.Sem

/-- The reference runs, leaves the logits as they were and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
      ∧ r.2.sem = fun _ => 0) :=
  (θ_run (Cert.ReferenceIdeal.defs (F := Ideal)) _ _).mono (fun _ h => ⟨fun c => (h.1 c).2.2.2.2, h.2⟩) (Ref.run (F := Ideal) m g)

/-- The kernel's four results are the reference's. -/
theorem algebraic : Cert.algebraic_KernelIdeal_ReferenceIdeal_pre_row_max_finite := by
  intro m g m' g' hpre hm
  refine ⟨fun c => Ref.refProbs (F := Ideal) (Launch.logits m c), fun c => Ref.refLogs (F := Ideal) (Launch.logits m c),
    fun c => Ref.refTokens (F := Ideal) (Launch.logits m c), fun c => Ref.refSample (F := Ideal) (Launch.logits m c), ?_, ?_⟩
  · refine (θ_run (Cert.KernelIdeal.defs (F := Ideal)) _ _).mono (fun r h c => ?_) (Launch.run (F := Ideal) m g)
    obtain ⟨h0, h1, h2, h3, h4⟩ := h.1 c
    have hx := row_finite _ (hpre c)
    exact ⟨h0.trans (probs_eq _ hx), h1.trans (logs_eq _), h2.trans (tokens_eq _), h3.trans (sample_eq _ hx), h4⟩
  · refine (θ_run (Cert.ReferenceIdeal.defs (F := Ideal)) _ _).mono (fun r h c => ?_) (Ref.run (F := Ideal) m' g')
    obtain ⟨h0, h1, h2, h3, h4⟩ := h.1 c
    have e : m' ((c.tc : Thread Cert.ReferenceIdeal.nD Cert.ReferenceIdeal.τ).loc Cert.ReferenceIdeal.main_arg0)
        = Launch.logits m c := hm c
    exact ⟨h0.trans (congrArg Ref.refProbs e), h1.trans (congrArg Ref.refLogs e), h2.trans (congrArg Ref.refTokens e),
      h3.trans (congrArg Ref.refSample e), h4⟩

/-- Everything the certificate claims. -/
theorem claim : Cert.Claim :=
  ⟨Cert.Kernel.Gen.facts, Cert.KernelIdeal.Gen.facts, Cert.ReferenceIdeal.Gen.facts, pre_facts,
    fun m g _ => kernel_frame m g,
    fun m g _ => ideal_frame (F := Ideal) m g,
    fun m g _ => ideal_frame (F := Ideal) m g,
    fun m g _ => reference_frame m g,
    fun m g _ => reference_frame m g,
    trivial,
    algebraic⟩

end Cert.Proof

end
